-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256 .f32) (main_arg5 : FVec F S256x64 .f32) (main_arg6 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16384x256 .f32) (main_arg1 : FVec F S256x256 .f32) (main_arg2 : FVec F S256 .f32) (main_arg3 : FVec F S256x256 .f32) (main_arg4 : FVec F S256 .f32) (main_arg5 : FVec F S256x64 .f32) (main_arg6 : FVec F S64 .f32) (main_arg7 : FVec F S64x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x256 : Shape := ⟨2, ![16384, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S1x256 : Shape := ⟨2, ![1, 256]⟩
abbrev S1x64 : Shape := ⟨2, ![1, 64]⟩
abbrev S16384 : Shape := ⟨1, ![16384]⟩
abbrev S2048x256 : Shape := ⟨2, ![2048, 256]⟩
abbrev S2048 : Shape := ⟨1, ![2048]⟩
abbrev S1024x128 : Shape := ⟨2, ![1024, 128]⟩
abbrev S2048x64 : Shape := ⟨2, ![2048, 64]⟩
abbrev S1024x64 : Shape := ⟨2, ![1024, 64]⟩
abbrev S2048x1 : Shape := ⟨2, ![2048, 1]⟩

abbrev nBuf : Space → Nat
  | .hbm => 14
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x256, .f32⟩
  | .hbm, ⟨8, _⟩ => ⟨S1x256, .f32⟩
  | .hbm, ⟨9, _⟩ => ⟨S1x256, .f32⟩
  | .hbm, ⟨10, _⟩ => ⟨S1x64, .f32⟩
  | .hbm, ⟨11, _⟩ => ⟨S16384x256, .f32⟩
  | .hbm, ⟨12, _⟩ => ⟨S16384, .i32⟩
  | .hbm, ⟨13, _⟩ => ⟨S16384, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S64x256, .f32⟩
  | .local _ .vmem, ⟨9, _⟩ => ⟨S2048x256, .f32⟩
  | .local _ .vmem, ⟨10, _⟩ => ⟨S2048x256, .f32⟩
  | .local _ .vmem, ⟨11, _⟩ => ⟨S2048, .i32⟩
  | .local _ .vmem, ⟨12, _⟩ => ⟨S2048, .i32⟩
  | .local _ .vmem, ⟨13, _⟩ => ⟨S2048, .f32⟩
  | .local _ .vmem, ⟨14, _⟩ => ⟨S2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x256 : Shape := ⟨2, ![16384, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S1x256 : Shape := ⟨2, ![1, 256]⟩
abbrev S_ : Shape := ⟨0, ![]⟩
abbrev S16384x64 : Shape := ⟨2, ![16384, 64]⟩
abbrev S1x64 : Shape := ⟨2, ![1, 64]⟩
abbrev S1 : Shape := ⟨1, ![1]⟩
abbrev S2 : Shape := ⟨1, ![2]⟩
abbrev S1x1 : Shape := ⟨2, ![1, 1]⟩
abbrev S16384 : Shape := ⟨1, ![16384]⟩
abbrev S16384x1 : Shape := ⟨2, ![16384, 1]⟩
abbrev S16384x1x1 : Shape := ⟨3, ![16384, 1, 1]⟩
abbrev S1x1x1 : Shape := ⟨3, ![1, 1, 1]⟩

abbrev nBuf : Space → Nat
  | .hbm => 381
  | .vmem => 0
  | .smem => 0
  | _ => 0

abbrev hbmTy0_0 (i : Nat) : BufTy := match i % 128 with
  | 0 => ⟨S16384x256, .f32⟩
  | 1 => ⟨S256x256, .f32⟩
  | 2 => ⟨S256, .f32⟩
  | 3 => ⟨S256x256, .f32⟩
  | 4 => ⟨S256, .f32⟩
  | 5 => ⟨S256x64, .f32⟩
  | 6 => ⟨S64, .f32⟩
  | 7 => ⟨S64x256, .f32⟩
  | 8 => ⟨S16384x256, .f32⟩
  | 9 => ⟨S1x256, .f32⟩
  | 10 => ⟨S16384x256, .f32⟩
  | 11 => ⟨S16384x256, .f32⟩
  | 12 => ⟨S_, .f32⟩
  | 13 => ⟨S16384x256, .f32⟩
  | 14 => ⟨S16384x256, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S16384x64, .f32⟩
  | 23 => ⟨S1x64, .f32⟩
  | 24 => ⟨S16384x64, .f32⟩
  | 25 => ⟨S16384x64, .f32⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i32⟩
  | 34 => ⟨S1, .i32⟩
  | 35 => ⟨S2, .i32⟩
  | 36 => ⟨S_, .f32⟩
  | 37 => ⟨S_, .f32⟩
  | 38 => ⟨S_, .f32⟩
  | 39 => ⟨S_, .f32⟩
  | 40 => ⟨S1x1, .f32⟩
  | 41 => ⟨S1x1, .f32⟩
  | 42 => ⟨S1, .i32⟩
  | 43 => ⟨S_, .i32⟩
  | 44 => ⟨S1, .i32⟩
  | 45 => ⟨S_, .i32⟩
  | 46 => ⟨S16384x64, .i64⟩
  | 47 => ⟨S16384x64, .i64⟩
  | 48 => ⟨S_, .i64⟩
  | 49 => ⟨S16384x64, .i64⟩
  | 50 => ⟨S16384x64, .i64⟩
  | 51 => ⟨S_, .i64⟩
  | 52 => ⟨S16384x64, .i64⟩
  | 53 => ⟨S16384x64, .i64⟩
  | 54 => ⟨S16384x64, .i64⟩
  | 55 => ⟨S_, .i64⟩
  | 56 => ⟨S16384x64, .i64⟩
  | 57 => ⟨S16384x64, .i64⟩
  | 58 => ⟨S16384x64, .i32⟩
  | 59 => ⟨S16384x64, .i32⟩
  | 60 => ⟨S_, .i32⟩
  | 61 => ⟨S_, .i32⟩
  | 62 => ⟨S_, .i32⟩
  | 63 => ⟨S16384x64, .i32⟩
  | 64 => ⟨S16384x64, .i32⟩
  | 65 => ⟨S16384x64, .i32⟩
  | 66 => ⟨S16384x64, .i32⟩
  | 67 => ⟨S16384x64, .i32⟩
  | 68 => ⟨S_, .i32⟩
  | 69 => ⟨S16384x64, .i32⟩
  | 70 => ⟨S16384x64, .i32⟩
  | 71 => ⟨S_, .i32⟩
  | 72 => ⟨S16384x64, .i32⟩
  | 73 => ⟨S16384x64, .i32⟩
  | 74 => ⟨S16384x64, .i32⟩
  | 75 => ⟨S16384x64, .i32⟩
  | 76 => ⟨S16384x64, .i32⟩
  | 77 => ⟨S_, .i32⟩
  | 78 => ⟨S16384x64, .i32⟩
  | 79 => ⟨S16384x64, .i32⟩
  | 80 => ⟨S_, .i32⟩
  | 81 => ⟨S16384x64, .i32⟩
  | 82 => ⟨S16384x64, .i32⟩
  | 83 => ⟨S16384x64, .i32⟩
  | 84 => ⟨S16384x64, .i32⟩
  | 85 => ⟨S16384x64, .i32⟩
  | 86 => ⟨S_, .i32⟩
  | 87 => ⟨S16384x64, .i32⟩
  | 88 => ⟨S16384x64, .i32⟩
  | 89 => ⟨S_, .i32⟩
  | 90 => ⟨S16384x64, .i32⟩
  | 91 => ⟨S16384x64, .i32⟩
  | 92 => ⟨S16384x64, .i32⟩
  | 93 => ⟨S16384x64, .i32⟩
  | 94 => ⟨S16384x64, .i32⟩
  | 95 => ⟨S_, .i32⟩
  | 96 => ⟨S16384x64, .i32⟩
  | 97 => ⟨S16384x64, .i32⟩
  | 98 => ⟨S_, .i32⟩
  | 99 => ⟨S16384x64, .i32⟩
  | 100 => ⟨S16384x64, .i32⟩
  | 101 => ⟨S16384x64, .i32⟩
  | 102 => ⟨S16384x64, .i32⟩
  | 103 => ⟨S16384x64, .i32⟩
  | 104 => ⟨S16384x64, .i32⟩
  | 105 => ⟨S16384x64, .i32⟩
  | 106 => ⟨S16384x64, .i32⟩
  | 107 => ⟨S_, .i32⟩
  | 108 => ⟨S16384x64, .i32⟩
  | 109 => ⟨S16384x64, .i32⟩
  | 110 => ⟨S16384x64, .i32⟩
  | 111 => ⟨S_, .i32⟩
  | 112 => ⟨S16384x64, .i32⟩
  | 113 => ⟨S16384x64, .i32⟩
  | 114 => ⟨S_, .i32⟩
  | 115 => ⟨S16384x64, .i32⟩
  | 116 => ⟨S16384x64, .i32⟩
  | 117 => ⟨S16384x64, .i32⟩
  | 118 => ⟨S16384x64, .i32⟩
  | 119 => ⟨S16384x64, .i32⟩
  | 120 => ⟨S_, .i32⟩
  | 121 => ⟨S16384x64, .i32⟩
  | 122 => ⟨S16384x64, .i32⟩
  | 123 => ⟨S_, .i32⟩
  | 124 => ⟨S16384x64, .i32⟩
  | 125 => ⟨S16384x64, .i32⟩
  | 126 => ⟨S16384x64, .i32⟩
  | 127 => ⟨S16384x64, .i32⟩
  | _ => ⟨S16384x256, .f32⟩

abbrev hbmTy0_1 (i : Nat) : BufTy := match i % 128 with
  | 0 => ⟨S16384x64, .i32⟩
  | 1 => ⟨S_, .i32⟩
  | 2 => ⟨S16384x64, .i32⟩
  | 3 => ⟨S16384x64, .i32⟩
  | 4 => ⟨S_, .i32⟩
  | 5 => ⟨S16384x64, .i32⟩
  | 6 => ⟨S16384x64, .i32⟩
  | 7 => ⟨S16384x64, .i32⟩
  | 8 => ⟨S16384x64, .i32⟩
  | 9 => ⟨S16384x64, .i32⟩
  | 10 => ⟨S_, .i32⟩
  | 11 => ⟨S16384x64, .i32⟩
  | 12 => ⟨S16384x64, .i32⟩
  | 13 => ⟨S_, .i32⟩
  | 14 => ⟨S16384x64, .i32⟩
  | 15 => ⟨S16384x64, .i32⟩
  | 16 => ⟨S16384x64, .i32⟩
  | 17 => ⟨S16384x64, .i32⟩
  | 18 => ⟨S16384x64, .i32⟩
  | 19 => ⟨S16384x64, .i32⟩
  | 20 => ⟨S16384x64, .i32⟩
  | 21 => ⟨S16384x64, .i32⟩
  | 22 => ⟨S_, .i32⟩
  | 23 => ⟨S16384x64, .i32⟩
  | 24 => ⟨S16384x64, .i32⟩
  | 25 => ⟨S16384x64, .i32⟩
  | 26 => ⟨S_, .i32⟩
  | 27 => ⟨S16384x64, .i32⟩
  | 28 => ⟨S16384x64, .i32⟩
  | 29 => ⟨S_, .i32⟩
  | 30 => ⟨S16384x64, .i32⟩
  | 31 => ⟨S16384x64, .i32⟩
  | 32 => ⟨S16384x64, .i32⟩
  | 33 => ⟨S16384x64, .i32⟩
  | 34 => ⟨S16384x64, .i32⟩
  | 35 => ⟨S_, .i32⟩
  | 36 => ⟨S16384x64, .i32⟩
  | 37 => ⟨S16384x64, .i32⟩
  | 38 => ⟨S_, .i32⟩
  | 39 => ⟨S16384x64, .i32⟩
  | 40 => ⟨S16384x64, .i32⟩
  | 41 => ⟨S16384x64, .i32⟩
  | 42 => ⟨S16384x64, .i32⟩
  | 43 => ⟨S16384x64, .i32⟩
  | 44 => ⟨S_, .i32⟩
  | 45 => ⟨S16384x64, .i32⟩
  | 46 => ⟨S16384x64, .i32⟩
  | 47 => ⟨S_, .i32⟩
  | 48 => ⟨S16384x64, .i32⟩
  | 49 => ⟨S16384x64, .i32⟩
  | 50 => ⟨S16384x64, .i32⟩
  | 51 => ⟨S16384x64, .i32⟩
  | 52 => ⟨S16384x64, .i32⟩
  | 53 => ⟨S_, .i32⟩
  | 54 => ⟨S16384x64, .i32⟩
  | 55 => ⟨S16384x64, .i32⟩
  | 56 => ⟨S_, .i32⟩
  | 57 => ⟨S16384x64, .i32⟩
  | 58 => ⟨S16384x64, .i32⟩
  | 59 => ⟨S16384x64, .i32⟩
  | 60 => ⟨S16384x64, .i32⟩
  | 61 => ⟨S16384x64, .i32⟩
  | 62 => ⟨S16384x64, .i32⟩
  | 63 => ⟨S16384x64, .i32⟩
  | 64 => ⟨S16384x64, .i32⟩
  | 65 => ⟨S_, .i32⟩
  | 66 => ⟨S16384x64, .i32⟩
  | 67 => ⟨S16384x64, .i32⟩
  | 68 => ⟨S16384x64, .i32⟩
  | 69 => ⟨S_, .i32⟩
  | 70 => ⟨S16384x64, .i32⟩
  | 71 => ⟨S16384x64, .i32⟩
  | 72 => ⟨S_, .i32⟩
  | 73 => ⟨S16384x64, .i32⟩
  | 74 => ⟨S16384x64, .i32⟩
  | 75 => ⟨S16384x64, .i32⟩
  | 76 => ⟨S16384x64, .i32⟩
  | 77 => ⟨S16384x64, .i32⟩
  | 78 => ⟨S_, .i32⟩
  | 79 => ⟨S16384x64, .i32⟩
  | 80 => ⟨S16384x64, .i32⟩
  | 81 => ⟨S_, .i32⟩
  | 82 => ⟨S16384x64, .i32⟩
  | 83 => ⟨S16384x64, .i32⟩
  | 84 => ⟨S16384x64, .i32⟩
  | 85 => ⟨S16384x64, .i32⟩
  | 86 => ⟨S16384x64, .i32⟩
  | 87 => ⟨S_, .i32⟩
  | 88 => ⟨S16384x64, .i32⟩
  | 89 => ⟨S16384x64, .i32⟩
  | 90 => ⟨S_, .i32⟩
  | 91 => ⟨S16384x64, .i32⟩
  | 92 => ⟨S16384x64, .i32⟩
  | 93 => ⟨S16384x64, .i32⟩
  | 94 => ⟨S16384x64, .i32⟩
  | 95 => ⟨S16384x64, .i32⟩
  | 96 => ⟨S_, .i32⟩
  | 97 => ⟨S16384x64, .i32⟩
  | 98 => ⟨S16384x64, .i32⟩
  | 99 => ⟨S_, .i32⟩
  | 100 => ⟨S16384x64, .i32⟩
  | 101 => ⟨S16384x64, .i32⟩
  | 102 => ⟨S16384x64, .i32⟩
  | 103 => ⟨S16384x64, .i32⟩
  | 104 => ⟨S16384x64, .i32⟩
  | 105 => ⟨S16384x64, .i32⟩
  | 106 => ⟨S16384x64, .i32⟩
  | 107 => ⟨S16384x64, .i32⟩
  | 108 => ⟨S_, .i32⟩
  | 109 => ⟨S16384x64, .i32⟩
  | 110 => ⟨S16384x64, .i32⟩
  | 111 => ⟨S16384x64, .i32⟩
  | 112 => ⟨S_, .i32⟩
  | 113 => ⟨S16384x64, .i32⟩
  | 114 => ⟨S16384x64, .i32⟩
  | 115 => ⟨S_, .i32⟩
  | 116 => ⟨S16384x64, .i32⟩
  | 117 => ⟨S16384x64, .i32⟩
  | 118 => ⟨S16384x64, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S_, .i32⟩
  | 125 => ⟨S16384x64, .i32⟩
  | 126 => ⟨S16384x64, .i32⟩
  | 127 => ⟨S16384x64, .i32⟩
  | _ => ⟨S16384x256, .f32⟩

abbrev hbmTy0_2 (i : Nat) : BufTy := match i % 128 with
  | 0 => ⟨S16384x64, .i32⟩
  | 1 => ⟨S16384x64, .i32⟩
  | 2 => ⟨S_, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S16384x64, .i32⟩
  | 9 => ⟨S16384x64, .i32⟩
  | 10 => ⟨S16384x64, .i32⟩
  | 11 => ⟨S_, .i32⟩
  | 12 => ⟨S16384x64, .i32⟩
  | 13 => ⟨S16384x64, .i32⟩
  | 14 => ⟨S_, .i32⟩
  | 15 => ⟨S16384x64, .i32⟩
  | 16 => ⟨S16384x64, .i32⟩
  | 17 => ⟨S16384x64, .i32⟩
  | 18 => ⟨S16384x64, .i32⟩
  | 19 => ⟨S16384x64, .i32⟩
  | 20 => ⟨S16384x64, .i32⟩
  | 21 => ⟨S16384x64, .i32⟩
  | 22 => ⟨S16384x64, .i32⟩
  | 23 => ⟨S_, .i32⟩
  | 24 => ⟨S16384x64, .i32⟩
  | 25 => ⟨S16384x64, .i32⟩
  | 26 => ⟨S16384x64, .i32⟩
  | 27 => ⟨S_, .i32⟩
  | 28 => ⟨S16384x64, .i32⟩
  | 29 => ⟨S16384x64, .i32⟩
  | 30 => ⟨S_, .i32⟩
  | 31 => ⟨S16384x64, .i32⟩
  | 32 => ⟨S16384x64, .i32⟩
  | 33 => ⟨S16384x64, .f32⟩
  | 34 => ⟨S_, .f32⟩
  | 35 => ⟨S16384x64, .f32⟩
  | 36 => ⟨S16384x64, .f32⟩
  | 37 => ⟨S1x1, .f32⟩
  | 38 => ⟨S16384x64, .f32⟩
  | 39 => ⟨S16384x64, .f32⟩
  | 40 => ⟨S16384x64, .f32⟩
  | 41 => ⟨S16384x64, .f32⟩
  | 42 => ⟨S16384x64, .f32⟩
  | 43 => ⟨S16384x64, .f32⟩
  | 44 => ⟨S_, .f32⟩
  | 45 => ⟨S16384x64, .f32⟩
  | 46 => ⟨S16384x64, .f32⟩
  | 47 => ⟨S_, .f32⟩
  | 48 => ⟨S16384x64, .f32⟩
  | 49 => ⟨S16384x64, .f32⟩
  | 50 => ⟨S_, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S16384x64, .i32⟩
  | 59 => ⟨S_, .f32⟩
  | 60 => ⟨S_, .i32⟩
  | 61 => ⟨S16384, .f32⟩
  | 62 => ⟨S16384, .i32⟩
  | 63 => ⟨S_, .f32⟩
  | 64 => ⟨S16384, .f32⟩
  | 65 => ⟨S_, .f32⟩
  | 66 => ⟨S16384, .f32⟩
  | 67 => ⟨S16384, .f32⟩
  | 68 => ⟨S16384x1, .f32⟩
  | 69 => ⟨S16384x64, .f32⟩
  | 70 => ⟨S16384x64, .f32⟩
  | 71 => ⟨S16384x64, .f32⟩
  | 72 => ⟨S_, .f32⟩
  | 73 => ⟨S16384, .f32⟩
  | 74 => ⟨S16384x1, .f32⟩
  | 75 => ⟨S16384x1, .f32⟩
  | 76 => ⟨S16384x64, .f32⟩
  | 77 => ⟨S16384x64, .f32⟩
  | 78 => ⟨S16384x1, .i32⟩
  | 79 => ⟨S_, .i32⟩
  | 80 => ⟨S16384x1, .i32⟩
  | 81 => ⟨S16384x1, .i1⟩
  | 82 => ⟨S_, .i32⟩
  | 83 => ⟨S16384x1, .i32⟩
  | 84 => ⟨S16384x1, .i32⟩
  | 85 => ⟨S16384x1, .i32⟩
  | 86 => ⟨S16384x1x1, .i32⟩
  | 87 => ⟨S1, .i32⟩
  | 88 => ⟨S_, .i32⟩
  | 89 => ⟨S16384x1x1, .i32⟩
  | 90 => ⟨S16384x1x1, .i1⟩
  | 91 => ⟨S1x1x1, .i32⟩
  | 92 => ⟨S16384x1x1, .i32⟩
  | 93 => ⟨S16384x1x1, .i1⟩
  | 94 => ⟨S16384x1x1, .i1⟩
  | 95 => ⟨S_, .i1⟩
  | 96 => ⟨S16384x1, .i1⟩
  | 97 => ⟨S16384x1, .f32⟩
  | 98 => ⟨S_, .f32⟩
  | 99 => ⟨S16384x1, .f32⟩
  | 100 => ⟨S16384x1, .f32⟩
  | 101 => ⟨S16384, .f32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S1, .i32⟩
  | 111 => ⟨S_, .i32⟩
  | 112 => ⟨S16384x1, .i32⟩
  | 113 => ⟨S16384x1, .i1⟩
  | 114 => ⟨S1x1, .i32⟩
  | 115 => ⟨S16384x1, .i32⟩
  | 116 => ⟨S16384x1, .i1⟩
  | 117 => ⟨S16384x1, .i1⟩
  | 118 => ⟨S_, .i1⟩
  | 119 => ⟨S16384, .i1⟩
  | 120 => ⟨S16384x256, .f32⟩
  | 121 => ⟨S16384x256, .i1⟩
  | 122 => ⟨S_, .f32⟩
  | 123 => ⟨S16384x256, .f32⟩
  | 124 => ⟨S16384x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_c : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_c_1 : Ref sig .tc := ⟨.hbm, 55, rfl⟩
abbrev main_call0_v15 : Ref sig .tc := ⟨.hbm, 56, rfl⟩
abbrev main_call0_v16 : Ref sig .tc := ⟨.hbm, 57, rfl⟩
abbrev main_call0_v17 : Ref sig .tc := ⟨.hbm, 58, rfl⟩
abbrev main_call0_v18 : Ref sig .tc := ⟨.hbm, 59, rfl⟩
abbrev main_call0_call0_v0 : Ref sig .tc := ⟨.hbm, 60, rfl⟩
abbrev main_call0_call0_c : Ref sig .tc := ⟨.hbm, 61, rfl⟩
abbrev main_call0_call0_v1 : Ref sig .tc := ⟨.hbm, 62, rfl⟩
abbrev main_call0_call0_v2 : Ref sig .tc := ⟨.hbm, 63, rfl⟩
abbrev main_call0_call0_v3 : Ref sig .tc := ⟨.hbm, 64, rfl⟩
abbrev main_call0_call0_v4 : Ref sig .tc := ⟨.hbm, 65, rfl⟩
abbrev main_call0_call0_v5 : Ref sig .tc := ⟨.hbm, 66, rfl⟩
abbrev main_call0_call0_v6 : Ref sig .tc := ⟨.hbm, 67, rfl⟩
abbrev main_call0_call0_c_0 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_c_1 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_call0_v12 : Ref sig .tc := ⟨.hbm, 75, rfl⟩
abbrev main_call0_call0_v13 : Ref sig .tc := ⟨.hbm, 76, rfl⟩
abbrev main_call0_call0_c_2 : Ref sig .tc := ⟨.hbm, 77, rfl⟩
abbrev main_call0_call0_v14 : Ref sig .tc := ⟨.hbm, 78, rfl⟩
abbrev main_call0_call0_v15 : Ref sig .tc := ⟨.hbm, 79, rfl⟩
abbrev main_call0_call0_c_3 : Ref sig .tc := ⟨.hbm, 80, rfl⟩
abbrev main_call0_call0_v16 : Ref sig .tc := ⟨.hbm, 81, rfl⟩
abbrev main_call0_call0_v17 : Ref sig .tc := ⟨.hbm, 82, rfl⟩
abbrev main_call0_call0_v18 : Ref sig .tc := ⟨.hbm, 83, rfl⟩
abbrev main_call0_call0_v19 : Ref sig .tc := ⟨.hbm, 84, rfl⟩
abbrev main_call0_call0_v20 : Ref sig .tc := ⟨.hbm, 85, rfl⟩
abbrev main_call0_call0_c_4 : Ref sig .tc := ⟨.hbm, 86, rfl⟩
abbrev main_call0_call0_v21 : Ref sig .tc := ⟨.hbm, 87, rfl⟩
abbrev main_call0_call0_v22 : Ref sig .tc := ⟨.hbm, 88, rfl⟩
abbrev main_call0_call0_c_5 : Ref sig .tc := ⟨.hbm, 89, rfl⟩
abbrev main_call0_call0_v23 : Ref sig .tc := ⟨.hbm, 90, rfl⟩
abbrev main_call0_call0_v24 : Ref sig .tc := ⟨.hbm, 91, rfl⟩
abbrev main_call0_call0_v25 : Ref sig .tc := ⟨.hbm, 92, rfl⟩
abbrev main_call0_call0_v26 : Ref sig .tc := ⟨.hbm, 93, rfl⟩
abbrev main_call0_call0_v27 : Ref sig .tc := ⟨.hbm, 94, rfl⟩
abbrev main_call0_call0_c_6 : Ref sig .tc := ⟨.hbm, 95, rfl⟩
abbrev main_call0_call0_v28 : Ref sig .tc := ⟨.hbm, 96, rfl⟩
abbrev main_call0_call0_v29 : Ref sig .tc := ⟨.hbm, 97, rfl⟩
abbrev main_call0_call0_c_7 : Ref sig .tc := ⟨.hbm, 98, rfl⟩
abbrev main_call0_call0_v30 : Ref sig .tc := ⟨.hbm, 99, rfl⟩
abbrev main_call0_call0_v31 : Ref sig .tc := ⟨.hbm, 100, rfl⟩
abbrev main_call0_call0_v32 : Ref sig .tc := ⟨.hbm, 101, rfl⟩
abbrev main_call0_call0_v33 : Ref sig .tc := ⟨.hbm, 102, rfl⟩
abbrev main_call0_call0_v34 : Ref sig .tc := ⟨.hbm, 103, rfl⟩
abbrev main_call0_call0_v35 : Ref sig .tc := ⟨.hbm, 104, rfl⟩
abbrev main_call0_call0_v36 : Ref sig .tc := ⟨.hbm, 105, rfl⟩
abbrev main_call0_call0_v37 : Ref sig .tc := ⟨.hbm, 106, rfl⟩
abbrev main_call0_call0_c_8 : Ref sig .tc := ⟨.hbm, 107, rfl⟩
abbrev main_call0_call0_v38 : Ref sig .tc := ⟨.hbm, 108, rfl⟩
abbrev main_call0_call0_v39 : Ref sig .tc := ⟨.hbm, 109, rfl⟩
abbrev main_call0_call0_v40 : Ref sig .tc := ⟨.hbm, 110, rfl⟩
abbrev main_call0_call0_c_9 : Ref sig .tc := ⟨.hbm, 111, rfl⟩
abbrev main_call0_call0_v41 : Ref sig .tc := ⟨.hbm, 112, rfl⟩
abbrev main_call0_call0_v42 : Ref sig .tc := ⟨.hbm, 113, rfl⟩
abbrev main_call0_call0_c_10 : Ref sig .tc := ⟨.hbm, 114, rfl⟩
abbrev main_call0_call0_v43 : Ref sig .tc := ⟨.hbm, 115, rfl⟩
abbrev main_call0_call0_v44 : Ref sig .tc := ⟨.hbm, 116, rfl⟩
abbrev main_call0_call0_v45 : Ref sig .tc := ⟨.hbm, 117, rfl⟩
abbrev main_call0_call0_v46 : Ref sig .tc := ⟨.hbm, 118, rfl⟩
abbrev main_call0_call0_v47 : Ref sig .tc := ⟨.hbm, 119, rfl⟩
abbrev main_call0_call0_c_11 : Ref sig .tc := ⟨.hbm, 120, rfl⟩
abbrev main_call0_call0_v48 : Ref sig .tc := ⟨.hbm, 121, rfl⟩
abbrev main_call0_call0_v49 : Ref sig .tc := ⟨.hbm, 122, rfl⟩
abbrev main_call0_call0_c_12 : Ref sig .tc := ⟨.hbm, 123, rfl⟩
abbrev main_call0_call0_v50 : Ref sig .tc := ⟨.hbm, 124, rfl⟩
abbrev main_call0_call0_v51 : Ref sig .tc := ⟨.hbm, 125, rfl⟩
abbrev main_call0_call0_v52 : Ref sig .tc := ⟨.hbm, 126, rfl⟩
abbrev main_call0_call0_v53 : Ref sig .tc := ⟨.hbm, 127, rfl⟩
abbrev main_call0_call0_v54 : Ref sig .tc := ⟨.hbm, 128, rfl⟩
abbrev main_call0_call0_c_13 : Ref sig .tc := ⟨.hbm, 129, rfl⟩
abbrev main_call0_call0_v55 : Ref sig .tc := ⟨.hbm, 130, rfl⟩
abbrev main_call0_call0_v56 : Ref sig .tc := ⟨.hbm, 131, rfl⟩
abbrev main_call0_call0_c_14 : Ref sig .tc := ⟨.hbm, 132, rfl⟩
abbrev main_call0_call0_v57 : Ref sig .tc := ⟨.hbm, 133, rfl⟩
abbrev main_call0_call0_v58 : Ref sig .tc := ⟨.hbm, 134, rfl⟩
abbrev main_call0_call0_v59 : Ref sig .tc := ⟨.hbm, 135, rfl⟩
abbrev main_call0_call0_v60 : Ref sig .tc := ⟨.hbm, 136, rfl⟩
abbrev main_call0_call0_v61 : Ref sig .tc := ⟨.hbm, 137, rfl⟩
abbrev main_call0_call0_c_15 : Ref sig .tc := ⟨.hbm, 138, rfl⟩
abbrev main_call0_call0_v62 : Ref sig .tc := ⟨.hbm, 139, rfl⟩
abbrev main_call0_call0_v63 : Ref sig .tc := ⟨.hbm, 140, rfl⟩
abbrev main_call0_call0_c_16 : Ref sig .tc := ⟨.hbm, 141, rfl⟩
abbrev main_call0_call0_v64 : Ref sig .tc := ⟨.hbm, 142, rfl⟩
abbrev main_call0_call0_v65 : Ref sig .tc := ⟨.hbm, 143, rfl⟩
abbrev main_call0_call0_v66 : Ref sig .tc := ⟨.hbm, 144, rfl⟩
abbrev main_call0_call0_v67 : Ref sig .tc := ⟨.hbm, 145, rfl⟩
abbrev main_call0_call0_v68 : Ref sig .tc := ⟨.hbm, 146, rfl⟩
abbrev main_call0_call0_v69 : Ref sig .tc := ⟨.hbm, 147, rfl⟩
abbrev main_call0_call0_v70 : Ref sig .tc := ⟨.hbm, 148, rfl⟩
abbrev main_call0_call0_v71 : Ref sig .tc := ⟨.hbm, 149, rfl⟩
abbrev main_call0_call0_c_17 : Ref sig .tc := ⟨.hbm, 150, rfl⟩
abbrev main_call0_call0_v72 : Ref sig .tc := ⟨.hbm, 151, rfl⟩
abbrev main_call0_call0_v73 : Ref sig .tc := ⟨.hbm, 152, rfl⟩
abbrev main_call0_call0_v74 : Ref sig .tc := ⟨.hbm, 153, rfl⟩
abbrev main_call0_call0_c_18 : Ref sig .tc := ⟨.hbm, 154, rfl⟩
abbrev main_call0_call0_v75 : Ref sig .tc := ⟨.hbm, 155, rfl⟩
abbrev main_call0_call0_v76 : Ref sig .tc := ⟨.hbm, 156, rfl⟩
abbrev main_call0_call0_c_19 : Ref sig .tc := ⟨.hbm, 157, rfl⟩
abbrev main_call0_call0_v77 : Ref sig .tc := ⟨.hbm, 158, rfl⟩
abbrev main_call0_call0_v78 : Ref sig .tc := ⟨.hbm, 159, rfl⟩
abbrev main_call0_call0_v79 : Ref sig .tc := ⟨.hbm, 160, rfl⟩
abbrev main_call0_call0_v80 : Ref sig .tc := ⟨.hbm, 161, rfl⟩
abbrev main_call0_call0_v81 : Ref sig .tc := ⟨.hbm, 162, rfl⟩
abbrev main_call0_call0_c_20 : Ref sig .tc := ⟨.hbm, 163, rfl⟩
abbrev main_call0_call0_v82 : Ref sig .tc := ⟨.hbm, 164, rfl⟩
abbrev main_call0_call0_v83 : Ref sig .tc := ⟨.hbm, 165, rfl⟩
abbrev main_call0_call0_c_21 : Ref sig .tc := ⟨.hbm, 166, rfl⟩
abbrev main_call0_call0_v84 : Ref sig .tc := ⟨.hbm, 167, rfl⟩
abbrev main_call0_call0_v85 : Ref sig .tc := ⟨.hbm, 168, rfl⟩
abbrev main_call0_call0_v86 : Ref sig .tc := ⟨.hbm, 169, rfl⟩
abbrev main_call0_call0_v87 : Ref sig .tc := ⟨.hbm, 170, rfl⟩
abbrev main_call0_call0_v88 : Ref sig .tc := ⟨.hbm, 171, rfl⟩
abbrev main_call0_call0_c_22 : Ref sig .tc := ⟨.hbm, 172, rfl⟩
abbrev main_call0_call0_v89 : Ref sig .tc := ⟨.hbm, 173, rfl⟩
abbrev main_call0_call0_v90 : Ref sig .tc := ⟨.hbm, 174, rfl⟩
abbrev main_call0_call0_c_23 : Ref sig .tc := ⟨.hbm, 175, rfl⟩
abbrev main_call0_call0_v91 : Ref sig .tc := ⟨.hbm, 176, rfl⟩
abbrev main_call0_call0_v92 : Ref sig .tc := ⟨.hbm, 177, rfl⟩
abbrev main_call0_call0_v93 : Ref sig .tc := ⟨.hbm, 178, rfl⟩
abbrev main_call0_call0_v94 : Ref sig .tc := ⟨.hbm, 179, rfl⟩
abbrev main_call0_call0_v95 : Ref sig .tc := ⟨.hbm, 180, rfl⟩
abbrev main_call0_call0_c_24 : Ref sig .tc := ⟨.hbm, 181, rfl⟩
abbrev main_call0_call0_v96 : Ref sig .tc := ⟨.hbm, 182, rfl⟩
abbrev main_call0_call0_v97 : Ref sig .tc := ⟨.hbm, 183, rfl⟩
abbrev main_call0_call0_c_25 : Ref sig .tc := ⟨.hbm, 184, rfl⟩
abbrev main_call0_call0_v98 : Ref sig .tc := ⟨.hbm, 185, rfl⟩
abbrev main_call0_call0_v99 : Ref sig .tc := ⟨.hbm, 186, rfl⟩
abbrev main_call0_call0_v100 : Ref sig .tc := ⟨.hbm, 187, rfl⟩
abbrev main_call0_call0_v101 : Ref sig .tc := ⟨.hbm, 188, rfl⟩
abbrev main_call0_call0_v102 : Ref sig .tc := ⟨.hbm, 189, rfl⟩
abbrev main_call0_call0_v103 : Ref sig .tc := ⟨.hbm, 190, rfl⟩
abbrev main_call0_call0_v104 : Ref sig .tc := ⟨.hbm, 191, rfl⟩
abbrev main_call0_call0_v105 : Ref sig .tc := ⟨.hbm, 192, rfl⟩
abbrev main_call0_call0_c_26 : Ref sig .tc := ⟨.hbm, 193, rfl⟩
abbrev main_call0_call0_v106 : Ref sig .tc := ⟨.hbm, 194, rfl⟩
abbrev main_call0_call0_v107 : Ref sig .tc := ⟨.hbm, 195, rfl⟩
abbrev main_call0_call0_v108 : Ref sig .tc := ⟨.hbm, 196, rfl⟩
abbrev main_call0_call0_c_27 : Ref sig .tc := ⟨.hbm, 197, rfl⟩
abbrev main_call0_call0_v109 : Ref sig .tc := ⟨.hbm, 198, rfl⟩
abbrev main_call0_call0_v110 : Ref sig .tc := ⟨.hbm, 199, rfl⟩
abbrev main_call0_call0_c_28 : Ref sig .tc := ⟨.hbm, 200, rfl⟩
abbrev main_call0_call0_v111 : Ref sig .tc := ⟨.hbm, 201, rfl⟩
abbrev main_call0_call0_v112 : Ref sig .tc := ⟨.hbm, 202, rfl⟩
abbrev main_call0_call0_v113 : Ref sig .tc := ⟨.hbm, 203, rfl⟩
abbrev main_call0_call0_v114 : Ref sig .tc := ⟨.hbm, 204, rfl⟩
abbrev main_call0_call0_v115 : Ref sig .tc := ⟨.hbm, 205, rfl⟩
abbrev main_call0_call0_c_29 : Ref sig .tc := ⟨.hbm, 206, rfl⟩
abbrev main_call0_call0_v116 : Ref sig .tc := ⟨.hbm, 207, rfl⟩
abbrev main_call0_call0_v117 : Ref sig .tc := ⟨.hbm, 208, rfl⟩
abbrev main_call0_call0_c_30 : Ref sig .tc := ⟨.hbm, 209, rfl⟩
abbrev main_call0_call0_v118 : Ref sig .tc := ⟨.hbm, 210, rfl⟩
abbrev main_call0_call0_v119 : Ref sig .tc := ⟨.hbm, 211, rfl⟩
abbrev main_call0_call0_v120 : Ref sig .tc := ⟨.hbm, 212, rfl⟩
abbrev main_call0_call0_v121 : Ref sig .tc := ⟨.hbm, 213, rfl⟩
abbrev main_call0_call0_v122 : Ref sig .tc := ⟨.hbm, 214, rfl⟩
abbrev main_call0_call0_c_31 : Ref sig .tc := ⟨.hbm, 215, rfl⟩
abbrev main_call0_call0_v123 : Ref sig .tc := ⟨.hbm, 216, rfl⟩
abbrev main_call0_call0_v124 : Ref sig .tc := ⟨.hbm, 217, rfl⟩
abbrev main_call0_call0_c_32 : Ref sig .tc := ⟨.hbm, 218, rfl⟩
abbrev main_call0_call0_v125 : Ref sig .tc := ⟨.hbm, 219, rfl⟩
abbrev main_call0_call0_v126 : Ref sig .tc := ⟨.hbm, 220, rfl⟩
abbrev main_call0_call0_v127 : Ref sig .tc := ⟨.hbm, 221, rfl⟩
abbrev main_call0_call0_v128 : Ref sig .tc := ⟨.hbm, 222, rfl⟩
abbrev main_call0_call0_v129 : Ref sig .tc := ⟨.hbm, 223, rfl⟩
abbrev main_call0_call0_c_33 : Ref sig .tc := ⟨.hbm, 224, rfl⟩
abbrev main_call0_call0_v130 : Ref sig .tc := ⟨.hbm, 225, rfl⟩
abbrev main_call0_call0_v131 : Ref sig .tc := ⟨.hbm, 226, rfl⟩
abbrev main_call0_call0_c_34 : Ref sig .tc := ⟨.hbm, 227, rfl⟩
abbrev main_call0_call0_v132 : Ref sig .tc := ⟨.hbm, 228, rfl⟩
abbrev main_call0_call0_v133 : Ref sig .tc := ⟨.hbm, 229, rfl⟩
abbrev main_call0_call0_v134 : Ref sig .tc := ⟨.hbm, 230, rfl⟩
abbrev main_call0_call0_v135 : Ref sig .tc := ⟨.hbm, 231, rfl⟩
abbrev main_call0_call0_v136 : Ref sig .tc := ⟨.hbm, 232, rfl⟩
abbrev main_call0_call0_v137 : Ref sig .tc := ⟨.hbm, 233, rfl⟩
abbrev main_call0_call0_v138 : Ref sig .tc := ⟨.hbm, 234, rfl⟩
abbrev main_call0_call0_v139 : Ref sig .tc := ⟨.hbm, 235, rfl⟩
abbrev main_call0_call0_c_35 : Ref sig .tc := ⟨.hbm, 236, rfl⟩
abbrev main_call0_call0_v140 : Ref sig .tc := ⟨.hbm, 237, rfl⟩
abbrev main_call0_call0_v141 : Ref sig .tc := ⟨.hbm, 238, rfl⟩
abbrev main_call0_call0_v142 : Ref sig .tc := ⟨.hbm, 239, rfl⟩
abbrev main_call0_call0_c_36 : Ref sig .tc := ⟨.hbm, 240, rfl⟩
abbrev main_call0_call0_v143 : Ref sig .tc := ⟨.hbm, 241, rfl⟩
abbrev main_call0_call0_v144 : Ref sig .tc := ⟨.hbm, 242, rfl⟩
abbrev main_call0_call0_c_37 : Ref sig .tc := ⟨.hbm, 243, rfl⟩
abbrev main_call0_call0_v145 : Ref sig .tc := ⟨.hbm, 244, rfl⟩
abbrev main_call0_call0_v146 : Ref sig .tc := ⟨.hbm, 245, rfl⟩
abbrev main_call0_call0_v147 : Ref sig .tc := ⟨.hbm, 246, rfl⟩
abbrev main_call0_call0_v148 : Ref sig .tc := ⟨.hbm, 247, rfl⟩
abbrev main_call0_call0_v149 : Ref sig .tc := ⟨.hbm, 248, rfl⟩
abbrev main_call0_call0_c_38 : Ref sig .tc := ⟨.hbm, 249, rfl⟩
abbrev main_call0_call0_v150 : Ref sig .tc := ⟨.hbm, 250, rfl⟩
abbrev main_call0_call0_v151 : Ref sig .tc := ⟨.hbm, 251, rfl⟩
abbrev main_call0_call0_c_39 : Ref sig .tc := ⟨.hbm, 252, rfl⟩
abbrev main_call0_call0_v152 : Ref sig .tc := ⟨.hbm, 253, rfl⟩
abbrev main_call0_call0_v153 : Ref sig .tc := ⟨.hbm, 254, rfl⟩
abbrev main_call0_call0_v154 : Ref sig .tc := ⟨.hbm, 255, rfl⟩
abbrev main_call0_call0_v155 : Ref sig .tc := ⟨.hbm, 256, rfl⟩
abbrev main_call0_call0_v156 : Ref sig .tc := ⟨.hbm, 257, rfl⟩
abbrev main_call0_call0_c_40 : Ref sig .tc := ⟨.hbm, 258, rfl⟩
abbrev main_call0_call0_v157 : Ref sig .tc := ⟨.hbm, 259, rfl⟩
abbrev main_call0_call0_v158 : Ref sig .tc := ⟨.hbm, 260, rfl⟩
abbrev main_call0_call0_c_41 : Ref sig .tc := ⟨.hbm, 261, rfl⟩
abbrev main_call0_call0_v159 : Ref sig .tc := ⟨.hbm, 262, rfl⟩
abbrev main_call0_call0_v160 : Ref sig .tc := ⟨.hbm, 263, rfl⟩
abbrev main_call0_call0_v161 : Ref sig .tc := ⟨.hbm, 264, rfl⟩
abbrev main_call0_call0_v162 : Ref sig .tc := ⟨.hbm, 265, rfl⟩
abbrev main_call0_call0_v163 : Ref sig .tc := ⟨.hbm, 266, rfl⟩
abbrev main_call0_call0_c_42 : Ref sig .tc := ⟨.hbm, 267, rfl⟩
abbrev main_call0_call0_v164 : Ref sig .tc := ⟨.hbm, 268, rfl⟩
abbrev main_call0_call0_v165 : Ref sig .tc := ⟨.hbm, 269, rfl⟩
abbrev main_call0_call0_c_43 : Ref sig .tc := ⟨.hbm, 270, rfl⟩
abbrev main_call0_call0_v166 : Ref sig .tc := ⟨.hbm, 271, rfl⟩
abbrev main_call0_call0_v167 : Ref sig .tc := ⟨.hbm, 272, rfl⟩
abbrev main_call0_call0_v168 : Ref sig .tc := ⟨.hbm, 273, rfl⟩
abbrev main_call0_call0_v169 : Ref sig .tc := ⟨.hbm, 274, rfl⟩
abbrev main_call0_call0_v170 : Ref sig .tc := ⟨.hbm, 275, rfl⟩
abbrev main_call0_v19_0 : Ref sig .tc := ⟨.hbm, 276, rfl⟩
abbrev main_call0_call0_v172 : Ref sig .tc := ⟨.hbm, 277, rfl⟩
abbrev main_call0_call0_v173 : Ref sig .tc := ⟨.hbm, 278, rfl⟩
abbrev main_call0_call0_c_44 : Ref sig .tc := ⟨.hbm, 279, rfl⟩
abbrev main_call0_call0_v174 : Ref sig .tc := ⟨.hbm, 280, rfl⟩
abbrev main_call0_v19_1 : Ref sig .tc := ⟨.hbm, 281, rfl⟩
abbrev main_call0_v20 : Ref sig .tc := ⟨.hbm, 282, rfl⟩
abbrev main_call0_c_2 : Ref sig .tc := ⟨.hbm, 283, rfl⟩
abbrev main_call0_v21 : Ref sig .tc := ⟨.hbm, 284, rfl⟩
abbrev main_call0_v22 : Ref sig .tc := ⟨.hbm, 285, rfl⟩
abbrev main_call0_c_3 : Ref sig .tc := ⟨.hbm, 286, rfl⟩
abbrev main_call0_v23 : Ref sig .tc := ⟨.hbm, 287, rfl⟩
abbrev main_call0_v24 : Ref sig .tc := ⟨.hbm, 288, rfl⟩
abbrev main_call0_v25 : Ref sig .tc := ⟨.hbm, 289, rfl⟩
abbrev main_call0_cst : Ref sig .tc := ⟨.hbm, 290, rfl⟩
abbrev main_call0_v26 : Ref sig .tc := ⟨.hbm, 291, rfl⟩
abbrev main_call0_v27 : Ref sig .tc := ⟨.hbm, 292, rfl⟩
abbrev main_call0_v28 : Ref sig .tc := ⟨.hbm, 293, rfl⟩
abbrev main_call0_v29 : Ref sig .tc := ⟨.hbm, 294, rfl⟩
abbrev main_call0_v30 : Ref sig .tc := ⟨.hbm, 295, rfl⟩
abbrev main_call0_v31 : Ref sig .tc := ⟨.hbm, 296, rfl⟩
abbrev main_call0_v32 : Ref sig .tc := ⟨.hbm, 297, rfl⟩
abbrev main_call0_v33 : Ref sig .tc := ⟨.hbm, 298, rfl⟩
abbrev main_v23 : Ref sig .tc := ⟨.hbm, 299, rfl⟩
abbrev main_cst_5 : Ref sig .tc := ⟨.hbm, 300, rfl⟩
abbrev main_v24 : Ref sig .tc := ⟨.hbm, 301, rfl⟩
abbrev main_v25 : Ref sig .tc := ⟨.hbm, 302, rfl⟩
abbrev main_cst_6 : Ref sig .tc := ⟨.hbm, 303, rfl⟩
abbrev main_v26 : Ref sig .tc := ⟨.hbm, 304, rfl⟩
abbrev main_v27 : Ref sig .tc := ⟨.hbm, 305, rfl⟩
abbrev main_cst_7 : Ref sig .tc := ⟨.hbm, 306, rfl⟩
abbrev main_v28 : Ref sig .tc := ⟨.hbm, 307, rfl⟩
abbrev main_v29 : Ref sig .tc := ⟨.hbm, 308, rfl⟩
abbrev main_v30 : Ref sig .tc := ⟨.hbm, 309, rfl⟩
abbrev main_v31 : Ref sig .tc := ⟨.hbm, 310, rfl⟩
abbrev main_v32 : Ref sig .tc := ⟨.hbm, 311, rfl⟩
abbrev main_v33 : Ref sig .tc := ⟨.hbm, 312, rfl⟩
abbrev main_v34 : Ref sig .tc := ⟨.hbm, 313, rfl⟩
abbrev main_call1_v0 : Ref sig .tc := ⟨.hbm, 314, rfl⟩
abbrev main_call1_cst : Ref sig .tc := ⟨.hbm, 315, rfl⟩
abbrev main_call1_c : Ref sig .tc := ⟨.hbm, 316, rfl⟩
abbrev main_call1_v1_0 : Ref sig .tc := ⟨.hbm, 317, rfl⟩
abbrev main_v35 : Ref sig .tc := ⟨.hbm, 318, rfl⟩
abbrev main_call2_cst : Ref sig .tc := ⟨.hbm, 319, rfl⟩
abbrev main_call2_v0 : Ref sig .tc := ⟨.hbm, 320, rfl⟩
abbrev main_call2_cst_0 : Ref sig .tc := ⟨.hbm, 321, rfl⟩
abbrev main_call2_v1 : Ref sig .tc := ⟨.hbm, 322, rfl⟩
abbrev main_call2_v2 : Ref sig .tc := ⟨.hbm, 323, rfl⟩
abbrev main_call2_v3 : Ref sig .tc := ⟨.hbm, 324, rfl⟩
abbrev main_call2_v4 : Ref sig .tc := ⟨.hbm, 325, rfl⟩
abbrev main_call2_v5 : Ref sig .tc := ⟨.hbm, 326, rfl⟩
abbrev main_call2_v6 : Ref sig .tc := ⟨.hbm, 327, rfl⟩
abbrev main_call2_cst_1 : Ref sig .tc := ⟨.hbm, 328, rfl⟩
abbrev main_call2_v7 : Ref sig .tc := ⟨.hbm, 329, rfl⟩
abbrev main_call2_v8 : Ref sig .tc := ⟨.hbm, 330, rfl⟩
abbrev main_call2_v9 : Ref sig .tc := ⟨.hbm, 331, rfl⟩
abbrev main_call2_v10 : Ref sig .tc := ⟨.hbm, 332, rfl⟩
abbrev main_v36 : Ref sig .tc := ⟨.hbm, 333, rfl⟩
abbrev main_v37 : Ref sig .tc := ⟨.hbm, 334, rfl⟩
abbrev main_call3_c : Ref sig .tc := ⟨.hbm, 335, rfl⟩
abbrev main_call3_v0 : Ref sig .tc := ⟨.hbm, 336, rfl⟩
abbrev main_call3_v1 : Ref sig .tc := ⟨.hbm, 337, rfl⟩
abbrev main_call3_c_0 : Ref sig .tc := ⟨.hbm, 338, rfl⟩
abbrev main_call3_v2 : Ref sig .tc := ⟨.hbm, 339, rfl⟩
abbrev main_call3_v3 : Ref sig .tc := ⟨.hbm, 340, rfl⟩
abbrev main_call3_v4 : Ref sig .tc := ⟨.hbm, 341, rfl⟩
abbrev main_call3_v5 : Ref sig .tc := ⟨.hbm, 342, rfl⟩
abbrev main_call3_c_1 : Ref sig .tc := ⟨.hbm, 343, rfl⟩
abbrev main_call3_c_2 : Ref sig .tc := ⟨.hbm, 344, rfl⟩
abbrev main_call3_v6 : Ref sig .tc := ⟨.hbm, 345, rfl⟩
abbrev main_call3_v7 : Ref sig .tc := ⟨.hbm, 346, rfl⟩
abbrev main_call3_v8 : Ref sig .tc := ⟨.hbm, 347, rfl⟩
abbrev main_call3_v9 : Ref sig .tc := ⟨.hbm, 348, rfl⟩
abbrev main_call3_v10 : Ref sig .tc := ⟨.hbm, 349, rfl⟩
abbrev main_call3_v11 : Ref sig .tc := ⟨.hbm, 350, rfl⟩
abbrev main_call3_c_3 : Ref sig .tc := ⟨.hbm, 351, rfl⟩
abbrev main_call3_v12 : Ref sig .tc := ⟨.hbm, 352, rfl⟩
abbrev main_call3_v13 : Ref sig .tc := ⟨.hbm, 353, rfl⟩
abbrev main_call3_cst : Ref sig .tc := ⟨.hbm, 354, rfl⟩
abbrev main_call3_v14 : Ref sig .tc := ⟨.hbm, 355, rfl⟩
abbrev main_v38 : Ref sig .tc := ⟨.hbm, 356, rfl⟩
abbrev main_v39 : Ref sig .tc := ⟨.hbm, 357, rfl⟩
abbrev main_call4_c : Ref sig .tc := ⟨.hbm, 358, rfl⟩
abbrev main_call4_v0 : Ref sig .tc := ⟨.hbm, 359, rfl⟩
abbrev main_call4_v1 : Ref sig .tc := ⟨.hbm, 360, rfl⟩
abbrev main_call4_c_0 : Ref sig .tc := ⟨.hbm, 361, rfl⟩
abbrev main_call4_v2 : Ref sig .tc := ⟨.hbm, 362, rfl⟩
abbrev main_call4_v3 : Ref sig .tc := ⟨.hbm, 363, rfl⟩
abbrev main_call4_v4 : Ref sig .tc := ⟨.hbm, 364, rfl⟩
abbrev main_call4_v5 : Ref sig .tc := ⟨.hbm, 365, rfl⟩
abbrev main_call4_c_1 : Ref sig .tc := ⟨.hbm, 366, rfl⟩
abbrev main_call4_c_2 : Ref sig .tc := ⟨.hbm, 367, rfl⟩
abbrev main_call4_v6 : Ref sig .tc := ⟨.hbm, 368, rfl⟩
abbrev main_call4_v7 : Ref sig .tc := ⟨.hbm, 369, rfl⟩
abbrev main_call4_v8 : Ref sig .tc := ⟨.hbm, 370, rfl⟩
abbrev main_call4_v9 : Ref sig .tc := ⟨.hbm, 371, rfl⟩
abbrev main_call4_v10 : Ref sig .tc := ⟨.hbm, 372, rfl⟩
abbrev main_call4_v11 : Ref sig .tc := ⟨.hbm, 373, rfl⟩
abbrev main_call4_c_3 : Ref sig .tc := ⟨.hbm, 374, rfl⟩
abbrev main_call4_v12 : Ref sig .tc := ⟨.hbm, 375, rfl⟩
abbrev main_call4_v13 : Ref sig .tc := ⟨.hbm, 376, rfl⟩
abbrev main_call4_v14 : Ref sig .tc := ⟨.hbm, 377, rfl⟩
abbrev main_call4_cst : Ref sig .tc := ⟨.hbm, 378, rfl⟩
abbrev main_call4_v15 : Ref sig .tc := ⟨.hbm, 379, rfl⟩
abbrev main_v40 : Ref sig .tc := ⟨.hbm, 380, rfl⟩

abbrev nD : Nat := 1
abbrev τ : Topo := Topo.v7x

variable {F : FTy → Type} [FloatOps F]
-- ==== Proof.RefLine.lean ====
/- The straight line of host operations that the reference is.

   The generator of Threefry is cut into its twenty mixing rounds and its key injections, each a short list of operations
   over the buffers it names; the other functions are one list each, read off the printed function. -/
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option maxRecDepth 16384

noncomputable section

namespace Cert.ReferenceIdeal.Line

open Cert.ReferenceIdeal Idealize.ShloMosaic Idealize.ShloMosaic.TcCoe Idealize.SL.Sem
open Idealize.ShloMosaic.StableHlo
open Facts₀ Facts

variable {F : FTy → Type} [FloatOps F]

/-- A host operation of the reference. -/
abbrev Op (F : FTy → Type) : Type := HloOp τ sig (Elt F)

/-- A program of the reference's TensorCore. -/
abbrev Host (F : FTy → Type) [FloatOps F] : Type 1 :=
  Prog (TpuEff nD τ sig (Elt F) (Pipeline.Sig Λ₀ (Fin 0) fun p => (pcfgs (F := F) p).Adm) .tc) PUnit

/-- A scalar word. -/
abbrev One : Type := TRef sig ⟨S_, .i32⟩
/-- An array of words, one for each logit. -/
abbrev Words : Type := TRef sig ⟨S16384x64, .i32⟩

/-- A line, then what follows it. -/
theorem IsSeq.andThen {p k : Host F} {ops ops' : List (Op F)} (hp : IsSeq p ops) (hk : IsSeq k ops') :
    IsSeq (p >>= fun _ => k) (ops ++ ops') := by
  unfold IsSeq at hp hk ⊢
  rw [hp, hk, seq_append]

/-- One mixing round: `s = x0 + x1`, `y = s ^ (x1 <<< l | x1 >>> r)`. -/
def mixOps (x0 x1 : Words) (l r : BitVec 32) (s : Words) (cl : One) (bl hl : Words) (cr : One) (br hr o y : Words) : List (Op F) :=
  [TRef.binary x0 x1 s addi,
   TRef.nullary cl (constantI S_ 32 l), TRef.unary cl bl (broadcastInDim S16384x64 ![] bcast_S_S16384x64),
   TRef.binary x1 bl hl Host.shli,
   TRef.nullary cr (constantI S_ 32 r), TRef.unary cr br (broadcastInDim S16384x64 ![] bcast_S_S16384x64),
   TRef.binary x1 br hr Host.shrui,
   TRef.binary hl hr o ori, TRef.binary s o y xori]

/-- One key injection: `u = x0 + ka`, `v = x1 + kb + n`. -/
def keyOps (x0 x1 : Words) (ka kb : One) (n : BitVec 32) (ba u bb w : Words) (c : One) (bc v : Words) : List (Op F) :=
  [TRef.unary ka ba (broadcastInDim S16384x64 ![] bcast_S_S16384x64), TRef.binary x0 ba u addi,
   TRef.unary kb bb (broadcastInDim S16384x64 ![] bcast_S_S16384x64), TRef.binary x1 bb w addi,
   TRef.nullary c (constantI S_ 32 n), TRef.unary c bc (broadcastInDim S16384x64 ![] bcast_S_S16384x64),
   TRef.binary w bc v addi]

/-- The third key word, and the counter's words with the first two added. -/
def startOps (a0 a1 : One) (a2 a3 : Words) (x c k2 : One) (b0 x0 b1 x1 : Words) : List (Op F) :=
  [TRef.binary a0 a1 x xori, TRef.nullary c (constantI S_ 32 466688986#32), TRef.binary x c k2 xori,
   TRef.unary a0 b0 (broadcastInDim S16384x64 ![] bcast_S_S16384x64), TRef.binary a2 b0 x0 addi,
   TRef.unary a1 b1 (broadcastInDim S16384x64 ![] bcast_S_S16384x64), TRef.binary a3 b1 x1 addi]

/-- Threefry-2x32: twenty rounds, a key injection after each four. -/
def threefryLine (a0 a1 : One) (a2 a3 : Words) (φ : fn_threefry2x32.Bufs) : List (Op F) :=
  startOps a0 a1 a2 a3 φ.v0 φ.c φ.v1 φ.v2 φ.v3 φ.v4 φ.v5 ++
  mixOps φ.v3 φ.v5 13 19 φ.v6 φ.c_0 φ.v7 φ.v8 φ.c_1 φ.v9 φ.v10 φ.v11 φ.v12 ++
  mixOps φ.v6 φ.v12 15 17 φ.v13 φ.c_2 φ.v14 φ.v15 φ.c_3 φ.v16 φ.v17 φ.v18 φ.v19 ++
  mixOps φ.v13 φ.v19 26 6 φ.v20 φ.c_4 φ.v21 φ.v22 φ.c_5 φ.v23 φ.v24 φ.v25 φ.v26 ++
  mixOps φ.v20 φ.v26 6 26 φ.v27 φ.c_6 φ.v28 φ.v29 φ.c_7 φ.v30 φ.v31 φ.v32 φ.v33 ++
  keyOps φ.v27 φ.v33 a1 φ.v1 1 φ.v34 φ.v35 φ.v36 φ.v37 φ.c_8 φ.v38 φ.v39 ++
  mixOps φ.v35 φ.v39 17 15 φ.v40 φ.c_9 φ.v41 φ.v42 φ.c_10 φ.v43 φ.v44 φ.v45 φ.v46 ++
  mixOps φ.v40 φ.v46 29 3 φ.v47 φ.c_11 φ.v48 φ.v49 φ.c_12 φ.v50 φ.v51 φ.v52 φ.v53 ++
  mixOps φ.v47 φ.v53 16 16 φ.v54 φ.c_13 φ.v55 φ.v56 φ.c_14 φ.v57 φ.v58 φ.v59 φ.v60 ++
  mixOps φ.v54 φ.v60 24 8 φ.v61 φ.c_15 φ.v62 φ.v63 φ.c_16 φ.v64 φ.v65 φ.v66 φ.v67 ++
  keyOps φ.v61 φ.v67 φ.v1 a0 2 φ.v68 φ.v69 φ.v70 φ.v71 φ.c_17 φ.v72 φ.v73 ++
  mixOps φ.v69 φ.v73 13 19 φ.v74 φ.c_18 φ.v75 φ.v76 φ.c_19 φ.v77 φ.v78 φ.v79 φ.v80 ++
  mixOps φ.v74 φ.v80 15 17 φ.v81 φ.c_20 φ.v82 φ.v83 φ.c_21 φ.v84 φ.v85 φ.v86 φ.v87 ++
  mixOps φ.v81 φ.v87 26 6 φ.v88 φ.c_22 φ.v89 φ.v90 φ.c_23 φ.v91 φ.v92 φ.v93 φ.v94 ++
  mixOps φ.v88 φ.v94 6 26 φ.v95 φ.c_24 φ.v96 φ.v97 φ.c_25 φ.v98 φ.v99 φ.v100 φ.v101 ++
  keyOps φ.v95 φ.v101 a0 a1 3 φ.v102 φ.v103 φ.v104 φ.v105 φ.c_26 φ.v106 φ.v107 ++
  mixOps φ.v103 φ.v107 17 15 φ.v108 φ.c_27 φ.v109 φ.v110 φ.c_28 φ.v111 φ.v112 φ.v113 φ.v114 ++
  mixOps φ.v108 φ.v114 29 3 φ.v115 φ.c_29 φ.v116 φ.v117 φ.c_30 φ.v118 φ.v119 φ.v120 φ.v121 ++
  mixOps φ.v115 φ.v121 16 16 φ.v122 φ.c_31 φ.v123 φ.v124 φ.c_32 φ.v125 φ.v126 φ.v127 φ.v128 ++
  mixOps φ.v122 φ.v128 24 8 φ.v129 φ.c_33 φ.v130 φ.v131 φ.c_34 φ.v132 φ.v133 φ.v134 φ.v135 ++
  keyOps φ.v129 φ.v135 a1 φ.v1 4 φ.v136 φ.v137 φ.v138 φ.v139 φ.c_35 φ.v140 φ.v141 ++
  mixOps φ.v137 φ.v141 13 19 φ.v142 φ.c_36 φ.v143 φ.v144 φ.c_37 φ.v145 φ.v146 φ.v147 φ.v148 ++
  mixOps φ.v142 φ.v148 15 17 φ.v149 φ.c_38 φ.v150 φ.v151 φ.c_39 φ.v152 φ.v153 φ.v154 φ.v155 ++
  mixOps φ.v149 φ.v155 26 6 φ.v156 φ.c_40 φ.v157 φ.v158 φ.c_41 φ.v159 φ.v160 φ.v161 φ.v162 ++
  mixOps φ.v156 φ.v162 6 26 φ.v163 φ.c_42 φ.v164 φ.v165 φ.c_43 φ.v166 φ.v167 φ.v168 φ.v169 ++
  keyOps φ.v163 φ.v169 φ.v1 a0 5 φ.v170 φ.v171 φ.v172 φ.v173 φ.c_44 φ.v174 φ.v175

/-- The printed function is that line. -/
theorem threefry_isSeq (a0 a1 : One) (a2 a3 : Words) (φ : fn_threefry2x32.Bufs) :
    IsSeq (fn_threefry2x32.body (F := F) a0 a1 a2 a3 φ) (threefryLine a0 a1 a2 a3 φ) := by
  unfold fn_threefry2x32.body fn_threefry2x32.body_part0 fn_threefry2x32.body_part1 fn_threefry2x32.body_part2
    fn_threefry2x32.body_part3 threefryLine startOps mixOps keyOps
  simp only [bind_assoc, pure_bind, List.cons_append, List.nil_append]
  hlo_seq

/-- One operation joins the piece of the line being read. -/
theorem IsSeq.more {op : Op F} {k : Host F} {a b : List (Op F)} (h : IsSeq k (a ++ b)) :
    IsSeq ((hlo rfl op fun _ => .ret (⟨⟩ : PUnit)) >>= fun _ => k) ((op :: a) ++ b) := IsSeq.cons h

/-- The piece being read ends. -/
theorem IsSeq.cut {k : Host F} {b : List (Op F)} (h : IsSeq k b) : IsSeq k (([] : List (Op F)) ++ b) := h

/-- The uniform draw's operations: those before Threefry and those after it. -/
structure UniformCut (F : FTy → Type) [FloatOps F] where
  /-- The counter and the key. -/
  counter : List (Op F)
  /-- From the drawn words to the draw. -/
  scale : List (Op F)
  /-- The call is them, Threefry between. -/
  isSeq : IsSeq (fn_uniform.body (F := F) (.of main_v22) (.of main_cst_3) (.of main_cst_4) main_call0)
    (counter ++ (threefryLine main_call0.v5 main_call0.v7 main_call0.v18 main_call0.v17 main_call0.call0 ++ scale))

/-- The uniform draw's operations. -/
def uniform : UniformCut F := by
  apply UniformCut.mk
  case isSeq =>
    unfold fn_uniform.body
    repeat with_reducible apply IsSeq.more
    apply IsSeq.cut
    apply IsSeq.andThen (threefry_isSeq _ _ _ _ _)
    hlo_seq

/-- The operations of the function's other parts, each a piece of the line. -/
structure MainCut (F : FTy → Type) [FloatOps F] where
  /-- The network, and the key. -/
  network : List (Op F)
  /-- From the draw to the sampled scores. -/
  gumbel : List (Op F)
  /-- The argmax. -/
  argmax : List (Op F)
  /-- The log-probabilities. -/
  logSoftmax : List (Op F)
  /-- The chosen index as a column. -/
  column : List (Op F)
  /-- The chosen log-probability. -/
  pick : List (Op F)
  /-- It as a vector. -/
  flat : List (Op F)
  /-- The chosen rows of the table. -/
  take : List (Op F)
  /-- The printed function is them, one after the other. -/
  isSeq : ∀ d, IsSeq (main (F := F) d) (network ++ ((uniform.counter
    ++ (threefryLine main_call0.v5 main_call0.v7 main_call0.v18 main_call0.v17 main_call0.call0 ++ uniform.scale))
    ++ (gumbel ++ (argmax ++ (logSoftmax ++ (column ++ (pick ++ (flat ++ (take ++ [])))))))))

/-- The function's pieces. -/
def pieces : MainCut F := by
  apply MainCut.mk
  case isSeq =>
    intro d
    unfold main
    repeat with_reducible apply IsSeq.more
    apply IsSeq.cut
    apply IsSeq.andThen uniform.isSeq
    repeat with_reducible apply IsSeq.more
    apply IsSeq.cut
    apply IsSeq.andThen
    · unfold fn_argmax.body; hlo_seq
    apply IsSeq.andThen
    · unfold fn_log_softmax.body; hlo_seq
    repeat with_reducible apply IsSeq.more
    apply IsSeq.cut
    apply IsSeq.andThen
    · unfold fn_take_along_axis.body; hlo_seq
    repeat with_reducible apply IsSeq.more
    apply IsSeq.cut
    apply IsSeq.andThen
    · unfold fn_take.body fn_where.body; simp only [bind_assoc, pure_bind]; hlo_seq
    exact IsSeq.nil

end Cert.ReferenceIdeal.Line

end
-- ==== Proof.RefRun.lean ====
/- The run of the reference: every buffer ends at what its line of operations leaves there; the arguments are not written. -/
module

public import proofs.«01_k».proof.Proof.RefLine

@[expose] public section

set_option maxRecDepth 16384

noncomputable section

namespace Cert.ReferenceIdeal.Line

open Cert.ReferenceIdeal Idealize.ShloMosaic Idealize.ShloMosaic.TcCoe Idealize.SL.Sem
open Idealize.ShloMosaic.StableHlo
open Facts₀ Facts

variable {F : FTy → Type} [FloatOps F]

/-- Each operation of the line touches the TensorCore's tensor values alone and determines what it writes. -/
def Plain (ops : List (Op F)) : Prop := ∀ op ∈ ops, op.bufs ⊆ tcRefs τ sig ∧ op.fresh = ∅

theorem Plain.nil : Plain ([] : List (Op F)) := fun _ h => nomatch h

theorem Plain.cons {op : Op F} {ops : List (Op F)} (h : op.bufs ⊆ tcRefs τ sig) (hf : op.fresh = ∅) (ht : Plain ops) :
    Plain (op :: ops) := fun o ho => by
  rcases List.mem_cons.mp ho with rfl | ho
  · exact ⟨h, hf⟩
  · exact ht o ho

theorem Plain.append {a b : List (Op F)} (ha : Plain a) (hb : Plain b) : Plain (a ++ b) := fun o ho =>
  (List.mem_append.mp ho).elim (ha o) (hb o)

theorem mixOps_plain (x0 x1 : Words) (l r : BitVec 32) (s : Words) (cl : One) (bl hl : Words) (cr : One)
    (br hr o y : Words) : Plain (mixOps (F := F) x0 x1 l r s cl bl hl cr br hr o y) :=
  .cons (binary_bufs_sub ..) rfl <| .cons (nullary_bufs_sub ..) rfl <| .cons (unary_bufs_sub ..) rfl <|
  .cons (binary_bufs_sub ..) rfl <| .cons (nullary_bufs_sub ..) rfl <| .cons (unary_bufs_sub ..) rfl <|
  .cons (binary_bufs_sub ..) rfl <| .cons (binary_bufs_sub ..) rfl <| .cons (binary_bufs_sub ..) rfl .nil

theorem keyOps_plain (x0 x1 : Words) (ka kb : One) (n : BitVec 32) (ba u bb w : Words) (c : One) (bc v : Words) :
    Plain (keyOps (F := F) x0 x1 ka kb n ba u bb w c bc v) :=
  .cons (unary_bufs_sub ..) rfl <| .cons (binary_bufs_sub ..) rfl <| .cons (unary_bufs_sub ..) rfl <|
  .cons (binary_bufs_sub ..) rfl <| .cons (nullary_bufs_sub ..) rfl <| .cons (unary_bufs_sub ..) rfl <|
  .cons (binary_bufs_sub ..) rfl .nil

theorem startOps_plain (a0 a1 : One) (a2 a3 : Words) (x c k2 : One) (b0 x0 b1 x1 : Words) :
    Plain (startOps (F := F) a0 a1 a2 a3 x c k2 b0 x0 b1 x1) :=
  .cons (binary_bufs_sub ..) rfl <| .cons (nullary_bufs_sub ..) rfl <| .cons (binary_bufs_sub ..) rfl <|
  .cons (unary_bufs_sub ..) rfl <| .cons (binary_bufs_sub ..) rfl <| .cons (unary_bufs_sub ..) rfl <|
  .cons (binary_bufs_sub ..) rfl .nil

theorem threefryLine_plain (a0 a1 : One) (a2 a3 : Words) (φ : fn_threefry2x32.Bufs) :
    Plain (threefryLine (F := F) a0 a1 a2 a3 φ) := by
  unfold threefryLine
  repeat' with_reducible apply Plain.append
  all_goals with_reducible first
    | exact mixOps_plain _ _ _ _ _ _ _ _ _ _ _ _ _ | exact keyOps_plain _ _ _ _ _ _ _ _ _ _ _ _
    | exact startOps_plain _ _ _ _ _ _ _ _ _ _ _

/-- The whole line. -/
abbrev line : List (Op F) := pieces.network ++ ((uniform.counter
    ++ (threefryLine main_call0.v5 main_call0.v7 main_call0.v18 main_call0.v17 main_call0.call0 ++ uniform.scale))
    ++ (pieces.gumbel ++ (pieces.argmax ++ (pieces.logSoftmax ++ (pieces.column ++ (pieces.pick ++ (pieces.flat
    ++ (pieces.take ++ []))))))))

theorem line_plain : Plain (line (F := F)) := by
  repeat' with_reducible apply Plain.append
  all_goals first
    | with_reducible exact threefryLine_plain _ _ _ _ _
    | (repeat (refine Plain.cons ?_ rfl ?_; rotate_left))
  all_goals first
    | with_reducible exact Plain.nil
    | with_reducible first
        | exact binary_bufs_sub .. | exact unary_bufs_sub .. | exact nullary_bufs_sub ..
        | exact ternary_bufs_sub .. | exact reshape_bufs_sub ..
    | exact quaternary_bufs_sub ..

/-- From any memory the reference runs to the end, every buffer holding what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after line (launchContents m d) (Proc.devRef .tc b) :=
  run_hlo defs main pieces.isSeq (by decide) (by decide)
    (List.forall_iff_forall_mem.mpr fun op h => (line_plain op h).1) (fun op h => (line_plain op h).2) m ρ

/-- The line leaves each of the references `L` as it was. -/
def Keeps (ops : List (Op F)) (L : List (Ref sig .tc)) : Prop :=
  ∀ V : Valuation τ sig (Elt F), ∀ r ∈ L, after ops V (Proc.devRef .tc r) = V (Proc.devRef .tc r)

theorem Keeps.nil (L : List (Ref sig .tc)) : Keeps ([] : List (Op F)) L := fun _ _ _ => rfl

theorem Keeps.append {a b : List (Op F)} {L : List (Ref sig .tc)} (ha : Keeps a L) (hb : Keeps b L) :
    Keeps (a ++ b) L := fun V r hr => by
  rw [after_append, hb _ r hr, ha _ r hr]

theorem Keeps.cons {op : Op F} {w : Ref sig .tc} {ops : List (Op F)} {L : List (Ref sig .tc)}
    (h : op.writes = {Proc.devRef (τ := τ) .tc w}) (hw : w ∉ L) (ht : Keeps ops L) : Keeps (op :: ops) L := by
  have h1 : Keeps [op] L := fun V r hr =>
    after_unwritten [w] (by rw [List.map_singleton, List.map_singleton, h]) (fun hm => hw (List.mem_singleton.mp hm ▸ hr)) V
  exact h1.append ht

theorem Keeps.mono {ops : List (Op F)} {L L' : List (Ref sig .tc)} (h : Keeps ops L) (hs : ∀ r ∈ L', r ∈ L) :
    Keeps ops L' := fun V r hr => h V r (hs r hr)

theorem mixOps_keeps {x0 x1 : Words} {l r : BitVec 32} {s : Words} {cl : One} {bl hl : Words} {cr : One}
    {br hr o y : Words} {L : List (Ref sig .tc)}
    (h : ∀ w ∈ [s.ref, cl.ref, bl.ref, hl.ref, cr.ref, br.ref, hr.ref, o.ref, y.ref], w ∉ L) :
    Keeps (mixOps (F := F) x0 x1 l r s cl bl hl cr br hr o y) L := by
  simp only [List.forall_mem_cons] at h
  obtain ⟨h0, h1, h2, h3, h4, h5, h6, h7, h8, -⟩ := h
  exact .cons rfl h0 <| .cons rfl h1 <| .cons rfl h2 <| .cons rfl h3 <| .cons rfl h4 <| .cons rfl h5 <| .cons rfl h6 <|
    .cons rfl h7 <| .cons rfl h8 (.nil L)

theorem keyOps_keeps {x0 x1 : Words} {ka kb : One} {n : BitVec 32} {ba u bb w : Words} {c : One} {bc v : Words}
    {L : List (Ref sig .tc)} (h : ∀ z ∈ [ba.ref, u.ref, bb.ref, w.ref, c.ref, bc.ref, v.ref], z ∉ L) :
    Keeps (keyOps (F := F) x0 x1 ka kb n ba u bb w c bc v) L := by
  simp only [List.forall_mem_cons] at h
  obtain ⟨h0, h1, h2, h3, h4, h5, h6, -⟩ := h
  exact .cons rfl h0 <| .cons rfl h1 <| .cons rfl h2 <| .cons rfl h3 <| .cons rfl h4 <| .cons rfl h5 <| .cons rfl h6 (.nil L)

theorem startOps_keeps {a0 a1 : One} {a2 a3 : Words} {x c k2 : One} {b0 x0 b1 x1 : Words} {L : List (Ref sig .tc)}
    (h : ∀ z ∈ [x.ref, c.ref, k2.ref, b0.ref, x0.ref, b1.ref, x1.ref], z ∉ L) :
    Keeps (startOps (F := F) a0 a1 a2 a3 x c k2 b0 x0 b1 x1) L := by
  simp only [List.forall_mem_cons] at h
  obtain ⟨h0, h1, h2, h3, h4, h5, h6, -⟩ := h
  exact .cons rfl h0 <| .cons rfl h1 <| .cons rfl h2 <| .cons rfl h3 <| .cons rfl h4 <| .cons rfl h5 <| .cons rfl h6 (.nil L)

/-- The arguments. -/
abbrev args : List (Ref sig .tc) :=
  [main_arg0, main_arg1, main_arg2, main_arg3, main_arg4, main_arg5, main_arg6, main_arg7]

/-- The arguments, the logits, and the interval of the draw. -/
abbrev known : List (Ref sig .tc) :=
  [main_arg0, main_arg1, main_arg2, main_arg3, main_arg4, main_arg5, main_arg6, main_arg7, main_v15]

theorem network_keeps : Keeps (F := F) pieces.network args := by
  repeat refine Keeps.cons rfl (by decide +kernel) ?_
  exact Keeps.nil _

theorem counter_keeps : Keeps (F := F) uniform.counter known := by
  repeat refine Keeps.cons rfl (by decide +kernel) ?_
  exact Keeps.nil _

theorem threefry_keeps : Keeps (F := F)
    (threefryLine main_call0.v5 main_call0.v7 main_call0.v18 main_call0.v17 main_call0.call0)
    (main_call0.v2.ref :: main_call0.v3.ref :: known) := by
  unfold threefryLine
  repeat' with_reducible apply Keeps.append
  all_goals first
    | with_reducible exact mixOps_keeps (by decide +kernel)
    | with_reducible exact keyOps_keeps (by decide +kernel)
    | with_reducible exact startOps_keeps (by decide +kernel)

theorem scale_keeps : Keeps (F := F) uniform.scale known := by
  repeat refine Keeps.cons rfl (by decide +kernel) ?_
  exact Keeps.nil _

theorem gumbel_keeps : Keeps (F := F) pieces.gumbel known := by
  repeat refine Keeps.cons rfl (by decide +kernel) ?_
  exact Keeps.nil _

theorem argmax_keeps : Keeps (F := F) pieces.argmax known := by
  repeat refine Keeps.cons rfl (by decide +kernel) ?_
  exact Keeps.nil _

theorem logSoftmax_keeps : Keeps (F := F) pieces.logSoftmax (main_v35 :: args) := by
  repeat refine Keeps.cons rfl (by decide +kernel) ?_
  exact Keeps.nil _

theorem column_keeps : Keeps (F := F) pieces.column (main_v35 :: main_v36 :: args) := by
  repeat refine Keeps.cons rfl (by decide +kernel) ?_
  exact Keeps.nil _

theorem pick_keeps : Keeps (F := F) pieces.pick (main_v35 :: args) := by
  repeat refine Keeps.cons rfl (by decide +kernel) ?_
  exact Keeps.nil _

theorem flat_keeps : Keeps (F := F) pieces.flat (main_v35 :: args) := by
  repeat refine Keeps.cons rfl (by decide +kernel) ?_
  exact Keeps.nil _

theorem take_keeps : Keeps (F := F) pieces.take (main_v35 :: main_v39 :: args) := by
  repeat refine Keeps.cons rfl (by decide +kernel) ?_
  exact Keeps.nil _

/-- The whole line leaves the arguments as they were. -/
theorem line_keeps : Keeps (F := F) line args :=
  .append network_keeps (.append (.append (counter_keeps.mono (by decide))
    (.append (threefry_keeps.mono (by decide)) (scale_keeps.mono (by decide))))
    (.append (gumbel_keeps.mono (by decide)) (.append (argmax_keeps.mono (by decide))
    (.append (logSoftmax_keeps.mono (by decide)) (.append (column_keeps.mono (by decide))
    (.append (pick_keeps.mono (by decide)) (.append (flat_keeps.mono (by decide))
    (.append (take_keeps.mono (by decide)) (.nil _)))))))))

end Cert.ReferenceIdeal.Line

end
-- ==== Proof.Bits.lean ====
/- Threefry-2x32 of one counter, as a function on words. -/
module

public import Mathlib.Data.BitVec

@[expose] public section

namespace Cert.Draw

/-- The generator's two words. -/
abbrev Pair : Type := BitVec 32 × BitVec 32

/-- One mixing round: the sum, and the second word rotated and mixed into it. -/
def mix (l r : BitVec 32) (p : Pair) : Pair := (p.1 + p.2, ((p.2 <<< l) ||| (p.2 >>> r)) ^^^ (p.1 + p.2))

/-- A key injection. -/
def inject (a b n : BitVec 32) (p : Pair) : Pair := (p.1 + a, p.2 + b + n)

/-- The four rounds of one kind. -/
def roundsA (p : Pair) : Pair := mix 6 26 (mix 26 6 (mix 15 17 (mix 13 19 p)))

/-- The four rounds of the other kind. -/
def roundsB (p : Pair) : Pair := mix 24 8 (mix 16 16 (mix 29 3 (mix 17 15 p)))

/-- The words drawn for the counter `n` under the key (0, 42). -/
def draw (n : BitVec 32) : Pair :=
  inject 466689008 0 5 (roundsA (inject 42 466689008 4 (roundsB (inject 0 42 3 (roundsA (inject 466689008 0 2
    (roundsB (inject 42 466689008 1 (roundsA (0, n + 42))))))))))

/-- The drawn word: the two words combined. -/
def word (n : BitVec 32) : BitVec 32 := (draw n).1 ^^^ (draw n).2

/-- The word of a number on the unit interval, shifted by one: exponent that of 1, the drawn word's high bits as mantissa. -/
def unitWord (n : BitVec 32) : BitVec 32 := (word n >>> (9 : BitVec 32)) ||| 1065353216#32

end Cert.Draw
-- ==== Proof.Model.lean ====
/- What one row of the batch gives, written over the extended reals: the network's logits, the noise added to them and
   the index they pick. -/
module

public import proofs.«01_k».proof.Proof.Bits
public import Idealize.ShloMosaic.PureOps.Ideal.Laws

@[expose] public section

noncomputable section

namespace Cert.Model

open Cert.Draw Idealize.ShloMosaic

/-- One value for each of the 64 codes. -/
abbrev Row := Fin 64 → EReal

/-- A layer: the weighted sum of the inputs plus the bias. -/
def dense {n k : Nat} (x : Fin n → EReal) (w : Fin n → Fin k → EReal) (b : Fin k → EReal) (j : Fin k) : EReal :=
  ∑ i, x i * w i j + b j

/-- A layer, its negative values replaced by zero. -/
def rectified {n k : Nat} (x : Fin n → EReal) (w : Fin n → Fin k → EReal) (b : Fin k → EReal) (j : Fin k) : EReal :=
  max (dense x w b j) 0

/-- The smallest positive number the noise is drawn from. -/
def least : EReal := Ideal.ofBits .f32 0x00800000#32

/-- The number of [0, 1) that a word stands for. -/
def unitOf (w : BitVec 32) : EReal := Ideal.ofBits .f32 ((w >>> (9#32)) ||| 1065353216#32) - Ideal.ofBits .f32 0x3F800000#32

/-- The Gumbel noise made of a word. -/
def noise (w : BitVec 32) : EReal := -Ideal.log (-Ideal.log (max least (unitOf w * Ideal.ofBits .f32 0x3F800000#32 + least)))

/-- The largest value of a row. -/
def top (y : Row) : EReal := Finset.univ.fold max ⊥ y

/-- The logarithm of the sum of exponentials of a row, taken from a number. -/
def spread (l : Row) (c : EReal) : EReal := Ideal.log (∑ k, Ideal.exp (l k - c))

/-- A code is the one a row picks: the first at which the row is largest. -/
structure Picks (y : Row) (k : Fin 64) : Prop where
  largest : y k = top y
  first : ∀ i, i < k → y i ≠ top y

end Cert.Model

end
-- ==== Proof.Pick.lean ====
/- The code a row picks: it exists, and the smallest index at which the row is largest is it. -/
module

public import proofs.«01_k».proof.Proof.Model
public import Idealize.ShloMosaic.Lib.Pointwise

@[expose] public section

noncomputable section

namespace Cert.Model

open Idealize.ShloMosaic

theorem lowest : Ideal.ofBits .f32 0xFF800000#32 = ⊥ := by simp [Ideal.ofBits, Ideal.ieee]

theorem le_top (y : Row) (k : Fin 64) : y k ≤ top y := Finset.le_fold_max (y k) |>.mpr (.inr ⟨k, Finset.mem_univ k, le_rfl⟩)

theorem exists_top (y : Row) : ∃ k, y k = top y := by
  obtain ⟨k, -, h⟩ := Finset.exists_max_image Finset.univ y ⟨0, Finset.mem_univ _⟩
  exact ⟨k, le_antisymm (le_top y k) ((Finset.fold_max_le _).mpr ⟨bot_le, h⟩)⟩

/-- A row of 64 values picks a code. -/
theorem exists_picks (y : Row) : ∃ k, Picks y k := by
  classical
  obtain ⟨a, ha⟩ := exists_top y
  obtain ⟨k, hk, h⟩ := Finset.exists_min_image (Finset.univ.filter fun k => y k = top y) id ⟨a, by simp [ha]⟩
  refine ⟨k, (Finset.mem_filter.mp hk).2, fun i hi e => ?_⟩
  exact absurd (h i (by simp [e])) (not_le.mpr hi)

theorem toInt_minsi (x y : BitVec 32) : (IntOp.minsi x y).toInt = min x.toInt y.toInt := by
  unfold IntOp.minsi
  split_ifs with h
  · exact (min_eq_left (BitVec.slt_iff_toInt_lt.mp h).le).symm
  · exact (min_eq_right (not_lt.mp fun l => h (BitVec.slt_iff_toInt_lt.mpr l))).symm

theorem toInt_code (n : Nat) (h : n ≤ 64) : (BitVec.ofNat 32 n).toInt = n := by
  have e : (BitVec.ofNat 32 n).toNat = n := by rw [BitVec.toNat_ofNat]; omega
  rw [BitVec.toInt_eq_toNat_of_lt (by rw [e]; omega), e]

/-- The least index at which a row is largest, read as a word: the code it picks. -/
theorem least_index (y : Row) (k : Fin 64) (h : Picks y k) (p : Fin 64 → Prop) [DecidablePred p] (hp : ∀ i, p i ↔ y i = top y) :
    Finset.univ.fold IntOp.minsi 2147483647#32 (fun i : Fin 64 => if p i then BitVec.ofNat 32 i else 64#32)
      = BitVec.ofNat 32 k := by
  apply BitVec.eq_of_toInt_eq
  rw [← Finset.fold_hom (op' := min) (m := BitVec.toInt) toInt_minsi, toInt_code _ k.isLt.le]
  refine le_antisymm ((Finset.fold_min_le _).mpr (.inr ⟨k, Finset.mem_univ _, ?_⟩))
    ((Finset.le_fold_min _).mpr ⟨?_, fun i _ => ?_⟩)
  · rw [if_pos ((hp k).mpr h.largest), toInt_code _ k.isLt.le]
  · have := k.isLt
    rw [show (2147483647#32 : BitVec 32).toInt = 2147483647 by decide]
    omega
  · by_cases c : p i
    · rw [if_pos c, toInt_code _ i.isLt.le]
      exact_mod_cast not_lt.mp fun hl => h.first i hl ((hp i).mp c)
    · rw [if_neg c]
      exact (toInt_code 64 le_rfl).symm ▸ (by exact_mod_cast k.isLt.le)

theorem code_eq_iff (j k : Fin 64) : BitVec.ofNat 32 j = BitVec.ofNat 32 k ↔ j = k := by
  refine ⟨fun h => Fin.ext ?_, fun h => h ▸ rfl⟩
  have := congrArg BitVec.toInt h
  rw [toInt_code _ j.isLt.le, toInt_code _ k.isLt.le] at this
  exact_mod_cast this

/-- The comparison of two codes, as a number. -/
theorem indicator (j k : Fin 64) :
    FloatOps.sitofp (F := Ideal) .f32 (BitVec.setWidth 32 (IntOp.cmpi .eq (BitVec.ofNat 32 j) (BitVec.ofNat 32 k)))
      = if j = k then (1 : EReal) else 0 := by
  show (((BitVec.setWidth 32 (BitVec.ofBool (BitVec.ofNat 32 j == BitVec.ofNat 32 k))).toInt : ℝ) : EReal) = _
  by_cases h : j = k
  · rw [if_pos h, h, beq_self_eq_true]
    exact (by norm_num : (((1 : ℤ) : ℝ) : EReal) = 1)
  · rw [if_neg h, beq_eq_false_iff_ne.mpr fun e => h ((code_eq_iff j k).mp e)]
    exact (by norm_num : (((0 : ℤ) : ℝ) : EReal) = 0)

/-- A sum weighted by the indicator of a code is the term at the code. -/
theorem sum_indicator (k : Fin 64) (f : Row) : ∑ j, (if j = k then (1 : EReal) else 0) * f j = f k := by
  simp

end Cert.Model

end
-- ==== Proof.Result.lean ====
/- What the whole batch gives: for each row its logits, its scores, the code it picks and the logarithm of that code's
   probability. -/
module

public import proofs.«01_k».proof.Proof.Pick

@[expose] public section

noncomputable section

namespace Cert.Model

open Cert.Draw Idealize.ShloMosaic

/-- The arguments, by their coordinates. -/
structure Data where
  z : Fin 16384 → Fin 256 → EReal
  w1 : Fin 256 → Fin 256 → EReal
  b1 : Fin 256 → EReal
  w2 : Fin 256 → Fin 256 → EReal
  b2 : Fin 256 → EReal
  w3 : Fin 256 → Fin 64 → EReal
  b3 : Fin 64 → EReal
  codebook : Fin 64 → Fin 256 → EReal

namespace Data

variable (d : Data) (R : Fin 16384)

/-- The network's output. -/
def logits : Row := dense (rectified (rectified (d.z R) d.w1 d.b1) d.w2 d.b2) d.w3 d.b3

/-- The place of a row and a code in the order of the draws. -/
def place (R : Fin 16384) (j : Fin 64) : BitVec 32 := BitVec.ofNat 32 (R.val * 64 + j.val)

/-- The logits with their noise. -/
def scores : Row := fun j => d.logits R j + noise (word (place R j))

/-- The code picked. -/
def code : Fin 64 := (exists_picks (d.scores R)).choose

theorem code_picks : Picks (d.scores R) (d.code R) := (exists_picks (d.scores R)).choose_spec

/-- The logarithm of the probability of the code picked. -/
def logProb : EReal := d.logits R (d.code R) - (top (d.scores R) + spread (d.logits R) (top (d.scores R)))

end Data

end Cert.Model

end
-- ==== Proof.KerDraw.lean ====
/- The words the kernel draws, one for each logit of a block. -/
module

public import proofs.«01_k».proof.Proof.Bits
public import proofs.«01_k».proof.Proof.Gen.KernelIdeal.Frame
public import Idealize.ShloMosaic.PureOps.Ideal

@[expose] public section

set_option maxRecDepth 16384

noncomputable section

namespace Cert.KernelIdeal.Value

open Cert.KernelIdeal Cert.KernelIdeal.Gen Cert.Draw Idealize.ShloMosaic

theorem shl_eq (x l : BitVec 32) (h : l.toNat < 32) : IntOp.shli .vector x l = x <<< l := if_pos h

theorem shr_eq (x r : BitVec 32) (h : r.toNat < 32) : IntOp.shrui .vector x r = x >>> r := if_pos h

/-- One round of the kernel at an index. -/
theorem mix_at {S : Shape} {x0 x1 s y : IVec S 32} {j : S.Idx} {p : Pair} (l r : BitVec 32) (hl : l.toNat < 32)
    (hr : r.toNat < 32) (hs : s = addi x0 x1)
    (hy : y = xori (ori (shli x1 (broadcast S l)) (shrui x1 (broadcast S r))) s) (hp : (x0 j, x1 j) = p) :
    (s j, y j) = mix l r p := by
  subst hs hy hp
  exact congrArg (Prod.mk _) (congrArg₂ (· ^^^ ·) (congrArg₂ (· ||| ·) (shl_eq _ _ hl) (shr_eq _ _ hr)) rfl)

/-- One key injection of the kernel at an index. -/
theorem inject_at {S : Shape} {x0 x1 s y : IVec S 32} {j : S.Idx} {p : Pair} (a b n : BitVec 32)
    (hs : s = addi x0 (broadcast S a)) (hy : y = addi (addi x1 (broadcast S b)) (broadcast S n))
    (hp : (x0 j, x1 j) = p) : (s j, y j) = inject a b n p := by
  subst hs hy hp; rfl

/-- The kernel's counter at an index of the block's noise. -/
def counter (i : grid0.Coords) (j : S1024x128.Idx) : BitVec 32 :=
  BitVec.ofNat 32 (i 0).val * 131072#32 + BitVec.ofNat 32 (j 0).val * 64#32 + (BitVec.ofNat 32 (j 1).val &&& 63#32)
    + (BitVec.ofNat 32 (j 1).val >>> (6#32)) * 65536#32

theorem pay2_apply (i : grid0.Coords) (j : S1024x128.Idx) : k0_pay2 i j = counter i j + 42#32 := by
  show BitVec.ofNat 32 (i 0).val * 131072#32 + BitVec.ofNat 32 (0 * 1024 + (j 0).val) * 64#32
    + (BitVec.ofNat 32 (0 * 128 + (j 1).val) &&& 63#32)
    + IntOp.shrui .vector (BitVec.ofNat 32 (0 * 128 + (j 1).val)) 6#32 * 65536#32 + 42#32 = _
  rw [shr_eq _ _ (by decide), zero_mul, zero_add, zero_mul, zero_add]
  rfl

/-- The first four rounds. -/
theorem part1 (i : grid0.Coords) (j : S1024x128.Idx) :
    (k0_pay8 i j, k0_pay9 i j) = roundsA (0, counter i j + 42) := by
  refine mix_at 6 26 (by decide) (by decide) rfl rfl <| mix_at 26 6 (by decide) (by decide) rfl rfl <|
    mix_at 15 17 (by decide) (by decide) rfl rfl (x0 := k0_pay2 i) <|
    mix_at 13 19 (by decide) (by decide) ?_ rfl (x0 := broadcast _ 0#32) (x1 := k0_pay2 i) ?_
  · funext j; exact (BitVec.zero_add _).symm
  · exact congrArg (Prod.mk _) (pay2_apply i j)

/-- The next four, and the first half of the ninth. -/
theorem part2 {u v : IVec S1024x128 32} {j : S1024x128.Idx} {p : Pair} (h : (u j, v j) = p) :
    (k0_pay19 u v 42#32 j, k0_pay22 (k0_pay19 u v 42#32) (k0_pay20 u v 42#32) (k0_pay21 u v 42#32) j)
      = mix 13 19 (inject 466689008 0 2 (roundsB (inject 42 466689008 1 p))) :=
  mix_at 13 19 (by decide) (by decide) rfl rfl (x1 := k0_pay18 u v 42#32) <| inject_at _ _ _ rfl rfl <|
    mix_at 24 8 (by decide) (by decide) rfl rfl <| mix_at 16 16 (by decide) (by decide) rfl rfl <|
    mix_at 29 3 (by decide) (by decide) rfl rfl <|
    mix_at 17 15 (by decide) (by decide) rfl rfl (x1 := k0_pay10 v) <| inject_at _ _ _ rfl rfl h

/-- The next five, and the first half of the fifteenth. -/
theorem part3 {s l r : IVec S1024x128 32} {j : S1024x128.Idx} {p : Pair} (h : (s j, k0_pay22 s l r j) = p) :
    (k0_pay33 s l r j, k0_pay35 (k0_pay32 s l r) (k0_pay33 s l r) (k0_pay34 s l r) j)
      = mix 16 16 (mix 29 3 (mix 17 15 (inject 0 42 3 (mix 6 26 (mix 26 6 (mix 15 17 p)))))) :=
  mix_at 16 16 (by decide) (by decide) rfl rfl <| mix_at 29 3 (by decide) (by decide) rfl rfl <|
    mix_at 17 15 (by decide) (by decide) rfl rfl (x1 := k0_pay28 s l r) <| inject_at _ _ _ rfl rfl <|
    mix_at 6 26 (by decide) (by decide) rfl rfl <| mix_at 26 6 (by decide) (by decide) rfl rfl <|
    mix_at 15 17 (by decide) (by decide) rfl rfl h

/-- The rest, but for the last key injection. -/
theorem part4 {y s l : IVec S1024x128 32} {j : S1024x128.Idx} {p : Pair} (h : (s j, k0_pay35 y s l j) = p) :
    (k0_pay44 y s l j, k0_pay45 y s l j) = roundsA (inject 42 466689008 4 (mix 24 8 p)) :=
  mix_at 6 26 (by decide) (by decide) rfl rfl <| mix_at 26 6 (by decide) (by decide) rfl rfl <|
    mix_at 15 17 (by decide) (by decide) rfl rfl <|
    mix_at 13 19 (by decide) (by decide) rfl rfl (x1 := k0_pay37 y s l) <| inject_at _ _ _ rfl rfl <|
    mix_at 24 8 (by decide) (by decide) rfl rfl h

/-- The two words before the last key injection. -/
theorem parts (i : grid0.Coords) (x0 : Vec Ideal S2048x256 .f32) (x1 : Vec Ideal S256x256 .f32) (x2 : Vec Ideal S1x256 .f32)
    (x3 : Vec Ideal S256x256 .f32) (x4 : Vec Ideal S1x256 .f32) (x5 : Vec Ideal S256x64 .f32) (x6 : Vec Ideal S1x64 .f32)
    (x7 : Vec Ideal S64x256 .f32) (j : S1024x128.Idx) :
    inject 466689008 0 5
      (k0_pay44 (k0_pay59 i x0 x1 x2 x3 x4 x5 x6 x7) (k0_pay60 i x0 x1 x2 x3 x4 x5 x6 x7) (k0_pay61 i x0 x1 x2 x3 x4 x5 x6 x7) j,
       k0_pay45 (k0_pay59 i x0 x1 x2 x3 x4 x5 x6 x7) (k0_pay60 i x0 x1 x2 x3 x4 x5 x6 x7) (k0_pay61 i x0 x1 x2 x3 x4 x5 x6 x7) j)
      = draw (counter i j) :=
  congrArg (inject 466689008 0 5) (part4 (part3 (part2 (part1 i j))))

end Cert.KernelIdeal.Value

end
-- ==== Proof.KerRow.lean ====
/- What the kernel's values are at a row and a code. -/
module

public import proofs.«01_k».proof.Proof.Pick
public import proofs.«01_k».proof.Proof.KerDraw
public import Idealize.ShloMosaic.Lib.Pointwise

@[expose] public section

set_option maxRecDepth 16384

noncomputable section

namespace Cert.KernelIdeal.Value

open Cert.KernelIdeal Cert.KernelIdeal.Gen Cert.Draw Cert.Model Idealize.ShloMosaic

variable (g : FVec Ideal S1024x128 .f32) (h : FVec Ideal S2048x256 .f32) (b2 : Vec Ideal S1x256 .f32)
  (w3 : Vec Ideal S256x64 .f32) (b3 : Vec Ideal S1x64 .f32)

/-- The word the noise is read from. -/
theorem word_at {S : Shape} (x y : IVec S 32) (j : S.Idx) (a b n c d : BitVec 32) (hc : c.toNat < 32) (w : Pair)
    (hw : inject a b n (x j, y j) = w) :
    ori (shrui (xori (addi x (broadcast S a)) (addi (addi y (broadcast S b)) (broadcast S n))) (broadcast S c))
      (broadcast S d) j = ((w.1 ^^^ w.2) >>> c) ||| d := by
  subst hw
  exact congrArg (· ||| d) (shr_eq _ c hc)

/-- The noise made of a word, in the operations of the kernel. -/
theorem noise_of (v : BitVec 32) :
    FloatOps.subf (F := Ideal) (φ := .f32) (FloatOps.ofBits .f32 0x00000000#32) (FloatOps.log
    (FloatOps.subf (F := Ideal) (φ := .f32) (FloatOps.ofBits .f32 0x00000000#32) (FloatOps.log
     (FloatOps.maximumf (FloatOps.ofBits .f32 0x00800000#32) (FloatOps.addf (FloatOps.mulf (FloatOps.subf (FloatOps.ofBits .f32 v)
      (FloatOps.ofBits .f32 0x3F800000#32)) (FloatOps.ofBits .f32 0x3F800000#32)) (FloatOps.ofBits .f32 0x00800000#32))))))
      = -Ideal.log (-Ideal.log (max least ((Ideal.ofBits .f32 v - Ideal.ofBits .f32 0x3F800000#32) * Ideal.ofBits .f32 0x3F800000#32 + least))) := by
  unfold least
  simp only [Ideal.subf_def, Ideal.addf_def, Ideal.mulf_def, Ideal.maximumf_def, Ideal.log_def, Ideal.ofBits_def, Ideal.ofBits_zero_f32, zero_sub]

theorem chain_at {F : FTy → Type} [FloatOps F] (x y : IVec S1024x128 32) (c : BitVec 32) (j : S1024x128.Idx) (v : BitVec 32)
    (hv : ori (shrui (xori (addi x (broadcast S1024x128 c))
      (addi (addi y (broadcast S1024x128 0#32)) (broadcast S1024x128 5#32))) (broadcast S1024x128 9#32))
      (broadcast S1024x128 1065353216#32) j = v) :
    k0_pay46 (F := F) x y c j = FloatOps.subf (FloatOps.ofBits .f32 0x00000000#32) (FloatOps.log
      (FloatOps.subf (FloatOps.ofBits .f32 0x00000000#32) (FloatOps.log
        (FloatOps.maximumf (FloatOps.ofBits .f32 0x00800000#32) (FloatOps.addf (FloatOps.mulf (FloatOps.subf
          (FloatOps.ofBits .f32 v) (FloatOps.ofBits .f32 0x3F800000#32)) (FloatOps.ofBits .f32 0x3F800000#32))
            (FloatOps.ofBits .f32 0x00800000#32)))))) := by
  subst hv; rfl

theorem noise_at (x y : IVec S1024x128 32) (j : S1024x128.Idx) (w : Pair) (hw : inject 466689008 0 5 (x j, y j) = w) :
    k0_pay46 (F := Ideal) x y 466689008#32 j = noise (w.1 ^^^ w.2) :=
  (chain_at x y _ j _ (word_at x y j 466689008#32 0#32 5#32 9#32 _ (by decide) w hw)).trans (noise_of _)

theorem hidden_at (x0 : Vec Ideal S2048x256 .f32) (x1 : Vec Ideal S256x256 .f32) (x2 : Vec Ideal S1x256 .f32)
    (x3 : Vec Ideal S256x256 .f32) (r : Fin 2048) (j : Fin 256) :
    k0_pay47 (F := Ideal) x0 x1 x2 x3 (ix2 r j)
      = ∑ k : Fin 256, rectified (fun i => x0 (ix2 r i)) (fun i j => x1 (ix2 i j)) (fun j => x2 (ix2 0 j)) k * x3 (ix2 k j) := by
  pointwise [k0_pay47, rectified, dense]

theorem logits_at (r : Fin 2048) (j : Fin 64) :
    k0_pay48 (F := Ideal) h b2 w3 b3 (ix2 r j)
      = dense (fun i => max (h (ix2 r i) + b2 (ix2 0 i)) 0) (fun i j => w3 (ix2 i j)) (fun j => b3 (ix2 0 j)) j := by
  pointwise [k0_pay48, dense]

/-- Where the block's noise holds that of a row and a code: the first half of the rows on the left. -/
def spot (r : Fin 2048) (j : Fin 64) : S1024x128.Idx :=
  if h : r.val < 1024 then ix2 ⟨r.val, h⟩ ⟨j.val, by omega⟩ else ix2 ⟨r.val - 1024, by omega⟩ ⟨64 + j.val, by omega⟩

theorem scores_at (r : Fin 2048) (j : Fin 64) :
    k0_pay49 (F := Ideal) g h b2 w3 b3 (ix2 r j) = k0_pay48 (F := Ideal) h b2 w3 b3 (ix2 r j) + g (spot r j) := by
  pointwise [k0_pay49]
  unfold spot
  split_ifs <;> rfl

/-- The row of scores of a block. -/
def scores (r : Fin 2048) : Row := fun j => k0_pay49 (F := Ideal) g h b2 w3 b3 (ix2 r j)

/-- The row of logits of a block. -/
def logits (r : Fin 2048) : Row := fun j => k0_pay48 (F := Ideal) h b2 w3 b3 (ix2 r j)

theorem top_at (r : Fin 2048) : k0_pay50 (F := Ideal) g h b2 w3 b3 (ix2 r 0) = top (scores g h b2 w3 b3 r) := by
  pointwise [k0_pay50]
  rw [lowest]; rfl

variable {g h b2 w3 b3} {r : Fin 2048} {k : Fin 64} (hk : Picks (scores g h b2 w3 b3 r) k)
include hk

theorem idx_at : k0_pay51 (F := Ideal) g h b2 w3 b3 (ix1 r) = BitVec.ofNat 32 k := by
  pointwise [k0_pay51]
  exact least_index _ k hk _ fun i => by rw [top_at]; rfl

theorem onehot_at (j : Fin 64) : k0_pay52 (F := Ideal) g h b2 w3 b3 (ix2 r j) = if j = k then 1 else 0 := by
  pointwise [k0_pay52]
  rw [idx_at hk, indicator]

theorem logp_at : k0_pay53 (F := Ideal) g h b2 w3 b3 (ix1 r)
    = logits h b2 w3 b3 r k - (top (scores g h b2 w3 b3 r) + spread (logits h b2 w3 b3 r) (top (scores g h b2 w3 b3 r))) := by
  pointwise [k0_pay53]
  simp only [onehot_at hk, top_at]
  rw [sum_indicator k fun j => k0_pay48 (F := Ideal) h b2 w3 b3 (ix2 r j)]
  rfl

theorem goal_at (cb : Vec Ideal S64x256 .f32) (j : Fin 256) :
    k0_pay1 (F := Ideal) (k0_pay52 (F := Ideal) g h b2 w3 b3) cb (constant S2048x256 .f32 0x00000000#32) (ix2 r j) = cb (ix2 k j) := by
  pointwise [k0_pay1]
  simp only [onehot_at hk]
  exact sum_indicator k fun i => cb (ix2 i j)

end Cert.KernelIdeal.Value

end
-- ==== Proof.KerBlock.lean ====
/- What one block of the kernel gives for its rows. -/
module

public import proofs.«01_k».proof.Proof.Result
public import proofs.«01_k».proof.Proof.KerRow

@[expose] public section

set_option maxRecDepth 16384

noncomputable section

namespace Cert.KernelIdeal.Value

open Cert.KernelIdeal Cert.KernelIdeal.Gen Cert.Draw Cert.Model Idealize.ShloMosaic

/-- The counter of a block's row and code is the place of that row of the batch and that code. -/
theorem counter_spot (i : grid0.Coords) (r : Fin 2048) (j : Fin 64) (R : Fin 16384) (hR : R.val = (i 0).val * 2048 + r.val) :
    counter i (spot r j) = Data.place R j := by
  have hj := j.isLt
  have hr := r.isLt
  have hi : (i 0).val < 8 := (i 0).isLt
  unfold counter Data.place spot
  rw [hR]
  split_ifs with c
  · have e1 : BitVec.ofNat 32 j.val &&& 63#32 = BitVec.ofNat 32 j.val :=
      (by decide +kernel : ∀ j : Fin 64, BitVec.ofNat 32 j.val &&& 63#32 = BitVec.ofNat 32 j.val) j
    have e2 : BitVec.ofNat 32 j.val >>> (6#32) = 0#32 :=
      (by decide +kernel : ∀ j : Fin 64, BitVec.ofNat 32 j.val >>> (6#32) = 0#32) j
    show BitVec.ofNat 32 (i 0).val * 131072#32 + BitVec.ofNat 32 r.val * 64#32 + (BitVec.ofNat 32 j.val &&& 63#32)
      + (BitVec.ofNat 32 j.val >>> (6#32)) * 65536#32 = _
    rw [e1, e2]
    apply BitVec.eq_of_toNat_eq
    simp only [BitVec.toNat_add, BitVec.toNat_mul, BitVec.toNat_ofNat]
    omega
  · have e1 : BitVec.ofNat 32 (64 + j.val) &&& 63#32 = BitVec.ofNat 32 j.val :=
      (by decide +kernel : ∀ j : Fin 64, BitVec.ofNat 32 (64 + j.val) &&& 63#32 = BitVec.ofNat 32 j.val) j
    have e2 : BitVec.ofNat 32 (64 + j.val) >>> (6#32) = 1#32 :=
      (by decide +kernel : ∀ j : Fin 64, BitVec.ofNat 32 (64 + j.val) >>> (6#32) = 1#32) j
    show BitVec.ofNat 32 (i 0).val * 131072#32 + BitVec.ofNat 32 (r.val - 1024) * 64#32 + (BitVec.ofNat 32 (64 + j.val) &&& 63#32)
      + (BitVec.ofNat 32 (64 + j.val) >>> (6#32)) * 65536#32 = _
    rw [e1, e2]
    apply BitVec.eq_of_toNat_eq
    simp only [BitVec.toNat_add, BitVec.toNat_mul, BitVec.toNat_ofNat]
    omega

/-- The blocks a grid point reads hold the arguments, a row of the block being a row of the batch. -/
structure Holds (d : Data) (i : grid0.Coords) (x0 : Vec Ideal S2048x256 .f32) (x1 : Vec Ideal S256x256 .f32)
    (x2 : Vec Ideal S1x256 .f32) (x3 : Vec Ideal S256x256 .f32) (x4 : Vec Ideal S1x256 .f32) (x5 : Vec Ideal S256x64 .f32)
    (x6 : Vec Ideal S1x64 .f32) (x7 : Vec Ideal S64x256 .f32) : Prop where
  z : ∀ (r : Fin 2048) (R : Fin 16384), R.val = (i 0).val * 2048 + r.val → ∀ k : Fin 256, x0 (ix2 r k) = d.z R k
  w1 : ∀ a b : Fin 256, x1 (ix2 a b) = d.w1 a b
  b1 : ∀ a : Fin 256, x2 (ix2 0 a) = d.b1 a
  w2 : ∀ a b : Fin 256, x3 (ix2 a b) = d.w2 a b
  b2 : ∀ a : Fin 256, x4 (ix2 0 a) = d.b2 a
  w3 : ∀ (a : Fin 256) (b : Fin 64), x5 (ix2 a b) = d.w3 a b
  b3 : ∀ a : Fin 64, x6 (ix2 0 a) = d.b3 a
  codebook : ∀ (a : Fin 64) (b : Fin 256), x7 (ix2 a b) = d.codebook a b

variable {d : Data} {i : grid0.Coords} {x0 : Vec Ideal S2048x256 .f32} {x1 : Vec Ideal S256x256 .f32}
    {x2 : Vec Ideal S1x256 .f32} {x3 : Vec Ideal S256x256 .f32} {x4 : Vec Ideal S1x256 .f32} {x5 : Vec Ideal S256x64 .f32}
    {x6 : Vec Ideal S1x64 .f32} {x7 : Vec Ideal S64x256 .f32} (H : Holds d i x0 x1 x2 x3 x4 x5 x6 x7)
    {r : Fin 2048} {R : Fin 16384} (hR : R.val = (i 0).val * 2048 + r.val)
include H hR

theorem logits_row : logits (k0_pay47 (F := Ideal) x0 x1 x2 x3) x4 x5 x6 r = d.logits R := by
  funext j
  show k0_pay48 (F := Ideal) _ x4 x5 x6 (ix2 r j) = _
  rw [logits_at]
  simp only [hidden_at, H.z r R hR, H.w1, H.b1, H.w2, H.b2, H.w3, H.b3]
  rfl

theorem scores_row : scores (k0_pay62 (F := Ideal) i x0 x1 x2 x3 x4 x5 x6 x7) (k0_pay47 (F := Ideal) x0 x1 x2 x3) x4 x5 x6 r
    = d.scores R := by
  funext j
  show k0_pay49 (F := Ideal) _ _ x4 x5 x6 (ix2 r j) = _
  rw [scores_at]
  refine congrArg₂ (· + ·) (congrFun (logits_row H hR) j) ?_
  rw [← counter_spot i r j R hR]
  exact noise_at _ _ _ _ (parts i x0 x1 x2 x3 x4 x5 x6 x7 _)

theorem picks_row : Picks (scores (k0_pay62 (F := Ideal) i x0 x1 x2 x3 x4 x5 x6 x7) (k0_pay47 (F := Ideal) x0 x1 x2 x3) x4 x5 x6 r)
    (d.code R) := scores_row H hR ▸ d.code_picks R

theorem idx_row : k0_pay51 (F := Ideal) (k0_pay62 (F := Ideal) i x0 x1 x2 x3 x4 x5 x6 x7) (k0_pay47 (F := Ideal) x0 x1 x2 x3) x4 x5 x6 (ix1 r)
    = BitVec.ofNat 32 (d.code R) := idx_at (picks_row H hR)

theorem logp_row : k0_pay53 (F := Ideal) (k0_pay62 (F := Ideal) i x0 x1 x2 x3 x4 x5 x6 x7) (k0_pay47 (F := Ideal) x0 x1 x2 x3) x4 x5 x6 (ix1 r)
    = d.logProb R := by
  rw [logp_at (picks_row H hR), scores_row H hR, logits_row H hR]
  rfl

theorem goal_row (j : Fin 256) :
    k0_pay1 (F := Ideal) (k0_pay52 (F := Ideal) (k0_pay62 (F := Ideal) i x0 x1 x2 x3 x4 x5 x6 x7) (k0_pay47 (F := Ideal) x0 x1 x2 x3) x4 x5 x6)
      x7 (constant S2048x256 .f32 0x00000000#32) (ix2 r j) = d.codebook (d.code R) j :=
  (goal_at (picks_row H hR) x7 j).trans (H.codebook _ _)

end Cert.KernelIdeal.Value

end
-- ==== Proof.KerArray.lean ====
/- What the kernel's three result arrays hold after the run. -/
module

public import proofs.«01_k».proof.Proof.KerBlock
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Cert.Draw Cert.Model Idealize.ShloMosaic Idealize.ShloMosaic.TcCoe Idealize.SL.Sem
open Idealize.ShloMosaic.Pipeline (Dat)

variable (m : (ℓ : Loc nD τ sig) → Buf (Elt Ideal) ℓ)

/-- The kernel's arguments on a device, by their coordinates. -/
def data (c : Dev nD) : Data where
  z a b := m ((c : Thread nD τ).loc main_arg0) (ix2 a b)
  w1 a b := m ((c : Thread nD τ).loc main_arg1) (ix2 a b)
  b1 a := m ((c : Thread nD τ).loc main_arg2) (ix1 a)
  w2 a b := m ((c : Thread nD τ).loc main_arg3) (ix2 a b)
  b2 a := m ((c : Thread nD τ).loc main_arg4) (ix1 a)
  w3 a b := m ((c : Thread nD τ).loc main_arg5) (ix2 a b)
  b3 a := m ((c : Thread nD τ).loc main_arg6) (ix1 a)
  codebook a b := m ((c : Thread nD τ).loc main_arg7) (ix2 a b)

/-- Where the windows lie at a grid point. -/
theorem places : ∀ t : Fin cfg0.N, (grid0.coords t 0).val = t.val ∧ win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![t.val]
    ∧ win0_10.index t = ![t.val] :=
  (by decide +kernel : ∀ t : Fin grid0.N, _)

theorem holds (c : Dev nD) (t : Fin cfg0.N) : Holds (data m c) (grid0.coords t) (iblk m c 0 t) (iblk m c 1 t) (iblk m c 2 t)
    (iblk m c 3 t) (iblk m c 4 t) (iblk m c 5 t) (iblk m c 6 t) (iblk m c 7 t) where
  z r R h k := by
    rw [(places t).1] at h
    show _ = m ((c : Thread nD τ).loc main_arg0) (ix2 R k)
    blk_point [iblk, V, places t]
  w1 a b := by
    show _ = m ((c : Thread nD τ).loc main_arg1) (ix2 a b)
    blk_point [iblk, V, places t]
  b1 a := by
    show _ = m ((c : Thread nD τ).loc main_arg2) (ix1 a)
    blk_point [iblk, V, places t]
  w2 a b := by
    show _ = m ((c : Thread nD τ).loc main_arg3) (ix2 a b)
    blk_point [iblk, V, places t]
  b2 a := by
    show _ = m ((c : Thread nD τ).loc main_arg4) (ix1 a)
    blk_point [iblk, V, places t]
  w3 a b := by
    show _ = m ((c : Thread nD τ).loc main_arg5) (ix2 a b)
    blk_point [iblk, V, places t]
  b3 a := by
    show _ = m ((c : Thread nD τ).loc main_arg6) (ix1 a)
    blk_point [iblk, V, places t]
  codebook a b := by
    show _ = m ((c : Thread nD τ).loc main_arg7) (ix2 a b)
    blk_point [iblk, V, places t]

theorem first_layers (i : grid0.Coords) (x0 : Vec Ideal S2048x256 .f32) (x1 : Vec Ideal S256x256 .f32)
    (x2 : Vec Ideal S1x256 .f32) (x3 : Vec Ideal S256x256 .f32) (x4 : Vec Ideal S1x256 .f32) (x5 : Vec Ideal S256x64 .f32)
    (x6 : Vec Ideal S1x64 .f32) (x7 : Vec Ideal S64x256 .f32) :
    k0_pay63 (F := Ideal) i x0 x1 x2 x3 x4 x5 x6 x7 = k0_pay47 (F := Ideal) x0 x1 x2 x3 := by
  have hz : (![0, 0] : Fin 2 → Nat) = fun _ => 0 := funext fun a => by fin_cases a <;> rfl
  unfold k0_pay63
  rw [View.ld_unit_zero hz, View.ld_unit_zero hz, View.ld_unit_zero hz, View.ld_unit_zero hz]

theorem row_lt (t : Fin cfg0.N) (r : Fin 2048) : t.val * 2048 + r.val < 16384 := by
  have := t.isLt
  have hN : cfg0.N = 8 := N_0
  omega

/-- The row of the batch that a block's row is. -/
def rowOf (t : Fin cfg0.N) (r : Fin 2048) : Fin 16384 := ⟨t.val * 2048 + r.val, row_lt t r⟩

theorem rowOf_val (t : Fin cfg0.N) (r : Fin 2048) : (rowOf t r).val = (grid0.coords t 0).val * 2048 + r.val := by
  rw [(places t).1]; rfl

/-- The codebook's rows at the codes picked. -/
theorem goal_array (c : Dev nD) : (dats m 0 c).arrAt 8 cfg0.N
    = fun i : S16384x256.Idx => (data m c).codebook ((data m c).code (i 0)) (i 1) := by
  refine (dats m 0 c).arrAt_eq_of_covers 8 _ (by decide +kernel) fun t _ y => ?_
  have h0 : (((cfg0.win 8).blk t).view.emb y 0 : Nat) = t.val * 2048 + (y 0).val := by blk_simp [places t]
  have h1 : (((cfg0.win 8).blk t).view.emb y 1 : Nat) = (y 1).val := by blk_simp [places t]
  blk_simp
  rw [after0_8]; frame_out
  rw [first_layers]
  refine (congrArg _ (eq_ix2 (n0 := 2048) (n1 := 256) y)).trans
    ((goal_row (holds m c t) (rowOf_val t (y 0)) (y 1)).trans ?_)
  exact congrArg₂ (fun a b => (data m c).codebook ((data m c).code a) b) (Fin.ext h0.symm) (Fin.ext h1.symm)

/-- The codes picked. -/
theorem idx_array (c : Dev nD) : (dats m 0 c).arrAt 9 cfg0.N
    = fun i : S16384.Idx => BitVec.ofNat 32 ((data m c).code (i 0)).val := by
  refine (dats m 0 c).arrAt_eq_of_covers 9 _ (by decide +kernel) fun t _ y => ?_
  have h0 : (((cfg0.win 9).blk t).view.emb y 0 : Nat) = t.val * 2048 + (y 0).val := by blk_simp [places t]
  blk_simp
  rw [after0_9]; frame_out
  rw [first_layers]
  refine (congrArg _ (eq_ix1 (n0 := 2048) y)).trans ((idx_row (holds m c t) (rowOf_val t (y 0))).trans ?_)
  exact congrArg (fun a => BitVec.ofNat 32 ((data m c).code a).val) (Fin.ext h0.symm)

/-- The logarithms of their probabilities. -/
theorem logp_array (c : Dev nD) : (dats m 0 c).arrAt 10 cfg0.N
    = fun i : S16384.Idx => (data m c).logProb (i 0) := by
  refine (dats m 0 c).arrAt_eq_of_covers 10 _ (by decide +kernel) fun t _ y => ?_
  have h0 : (((cfg0.win 10).blk t).view.emb y 0 : Nat) = t.val * 2048 + (y 0).val := by blk_simp [places t]
  blk_simp
  rw [after0_10]; frame_out
  rw [first_layers]
  refine (congrArg _ (eq_ix1 (n0 := 2048) y)).trans ((logp_row (holds m c t) (rowOf_val t (y 0))).trans ?_)
  exact congrArg (fun a => (data m c).logProb a) (Fin.ext h0.symm)

end Cert.KernelIdeal.Value

end
-- ==== Proof.Real.lean ====
/- The log-probabilities agree where the logits are real numbers. -/
module

public import proofs.«01_k».proof.Proof.Result
public import Idealize.ShloMosaic.Lib.IdealHost

@[expose] public section

noncomputable section

namespace Cert.Model

open Cert.Draw Idealize.ShloMosaic

/-- A value is a real number. -/
def IsReal (x : EReal) : Prop := ∃ r : ℝ, x = r

theorem isReal_of_lt {x : EReal} (h : max x (-x) < ⊤) : IsReal x := by
  induction x using EReal.rec with
  | bot => simp at h
  | top => simp at h
  | coe r => exact ⟨r, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.max {x y : EReal} (hx : IsReal x) (hy : IsReal y) : IsReal (max x y) := by
  rcases max_choice x y with h | h <;> rw [h] <;> assumption

theorem coe_sum {n : Nat} (g : Fin n → ℝ) : ((∑ i, g i : ℝ) : EReal) = ∑ i, (g i : EReal) := by
  classical
  induction (Finset.univ : Finset (Fin n)) using Finset.induction_on with
  | empty => rfl
  | insert a s h ih => rw [Finset.sum_insert h, Finset.sum_insert h, EReal.coe_add, ih]

theorem IsReal.sum {n : Nat} {f : Fin n → EReal} (h : ∀ i, IsReal (f i)) : IsReal (∑ i, f i) := by
  choose g hg using h
  exact ⟨∑ i, g i, by rw [coe_sum]; exact Finset.sum_congr rfl fun i _ => hg i⟩

theorem isReal_dense {n k : Nat} {x : Fin n → EReal} {w : Fin n → Fin k → EReal} {b : Fin k → EReal}
    (hx : ∀ i, IsReal (x i)) (hw : ∀ i j, IsReal (w i j)) (hb : ∀ j, IsReal (b j)) (j : Fin k) : IsReal (dense x w b j) :=
  (IsReal.sum fun i => (hx i).mul (hw i j)).add (hb j)

theorem isReal_rectified {n k : Nat} {x : Fin n → EReal} {w : Fin n → Fin k → EReal} {b : Fin k → EReal}
    (hx : ∀ i, IsReal (x i)) (hw : ∀ i j, IsReal (w i j)) (hb : ∀ j, IsReal (b j)) (j : Fin k) : IsReal (rectified x w b j) :=
  (isReal_dense hx hw hb j).max ⟨0, rfl⟩

/-- The arguments of the network are real numbers. -/
structure Data.Finite (d : Data) : Prop where
  z : ∀ a b, IsReal (d.z a b)
  w1 : ∀ a b, IsReal (d.w1 a b)
  b1 : ∀ a, IsReal (d.b1 a)
  w2 : ∀ a b, IsReal (d.w2 a b)
  b2 : ∀ a, IsReal (d.b2 a)
  w3 : ∀ a b, IsReal (d.w3 a b)
  b3 : ∀ a, IsReal (d.b3 a)

theorem Data.Finite.logits {d : Data} (h : d.Finite) (R : Fin 16384) (j : Fin 64) : IsReal (d.logits R j) :=
  isReal_dense (isReal_rectified (isReal_rectified (h.z R) h.w1 h.b1) h.w2 h.b2) h.w3 h.b3 j

/-- The largest of real numbers is one of them. -/
theorem isReal_top {y : Row} (h : ∀ j, IsReal (y j)) : IsReal (top y) := by
  obtain ⟨k, hk⟩ := exists_top y
  exact hk ▸ h k

/-- Taking the logarithm of the sum of exponentials from another number moves it by that number. -/
theorem spread_eq (l : Fin 64 → ℝ) (c : ℝ) :
    spread (fun k => (l k : EReal)) c = ((Real.log (∑ k, Real.exp (l k)) - c : ℝ) : EReal) := by
  have e : ∀ k, Ideal.exp ((l k : EReal) - c) = ((Real.exp (l k - c) : ℝ) : EReal) := fun k => by
    rw [← EReal.coe_sub]; rfl
  have hp : 0 < ∑ k, Real.exp (l k) := Finset.sum_pos (fun _ _ => Real.exp_pos _) ⟨0, Finset.mem_univ _⟩
  have hs : ∑ k, Real.exp (l k - c) = (∑ k, Real.exp (l k)) * Real.exp (-c) := by
    rw [Finset.sum_mul]
    exact Finset.sum_congr rfl fun k _ => by rw [← Real.exp_add, sub_eq_add_neg]
  unfold spread
  simp only [e, ← coe_sum]
  rw [hs]
  have hq : 0 < (∑ k, Real.exp (l k)) * Real.exp (-c) := mul_pos hp (Real.exp_pos _)
  have hl : Ideal.log (((∑ k, Real.exp (l k)) * Real.exp (-c) : ℝ) : EReal)
      = ((Real.log ((∑ k, Real.exp (l k)) * Real.exp (-c)) : ℝ) : EReal) := by
    rw [Ideal.log_coe, if_neg (not_le.mpr hq)]
  rw [hl, Real.log_mul hp.ne' (Real.exp_pos _).ne', Real.log_exp, sub_eq_add_neg]

/-- The logarithm of a probability, taken from any real number and from the largest logit. -/
theorem logProb_eq {l : Row} (h : ∀ j, IsReal (l j)) {c : EReal} (hc : IsReal c) (k : Fin 64) :
    l k - top l - spread l (top l) = l k - (c + spread l c) := by
  obtain ⟨t, ht⟩ := isReal_top h
  obtain ⟨c, rfl⟩ := hc
  choose g hg using h
  obtain rfl : l = fun k => (g k : EReal) := funext hg
  rw [ht, spread_eq, spread_eq, ← EReal.coe_sub, ← EReal.coe_sub, ← EReal.coe_add, ← EReal.coe_sub]
  congr 1
  ring

/-- The word of a number of [1, 2): the exponent of 1 over the drawn word's high bits. -/
theorem unit_word (w : BitVec 32) : ((w >>> (9#32)) ||| 1065353216#32).toNat = 2 ^ 23 * 127 + w.toNat / 512 := by
  have hw := w.isLt
  rw [BitVec.toNat_or, BitVec.ushiftRight_eq', BitVec.toNat_ushiftRight, Nat.or_comm, Nat.shiftRight_eq_div_pow]
  exact (Nat.two_pow_add_eq_or_of_lt (i := 23) (b := w.toNat / 512) (by omega) 127).symm

/-- The number of [0, 1) that a word stands for is a multiple of 2⁻²³. -/
theorem unitOf_eq (w : BitVec 32) : unitOf w = (((w.toNat / 512 : ℕ) : ℝ) / 2 ^ 23 : ℝ) := by
  have hw := w.isLt
  have h := unit_word w
  unfold unitOf
  generalize (w >>> (9#32)) ||| 1065353216#32 = v at h
  rw [Ideal.ofBits_one_f32]
  have hneg : v.extractLsb' 31 1 = 0#1 := by
    apply BitVec.eq_of_toNat_eq
    rw [BitVec.extractLsb'_toNat, Nat.shiftRight_eq_div_pow, h]
    show _ = 0
    omega
  have hex : (v.extractLsb' 23 8).toNat = 127 := by
    rw [BitVec.extractLsb'_toNat, Nat.shiftRight_eq_div_pow, h]
    omega
  have hfr : (v.extractLsb' 0 23).toNat = w.toNat / 512 := by
    rw [BitVec.extractLsb'_toNat, Nat.shiftRight_eq_div_pow, h]
    omega
  have hv : Ideal.ofBits .f32 v = ((1 + ((w.toNat / 512 : ℕ) : ℝ) / 2 ^ 23 : ℝ) : EReal) := by
    show Ideal.ieee 8 23 v = _
    unfold Ideal.ieee
    rw [hneg, hex, hfr]
    generalize w.toNat / 512 = m
    simp [-EReal.coe_mul, -EReal.coe_add]
    norm_num
    ring_nf
  rw [hv, ← EReal.coe_one, ← EReal.coe_sub]
  congr 1
  ring

theorem least_eq : least = (((2 : ℝ) ^ (-126 : ℤ) : ℝ) : EReal) := by
  unfold least
  simp [Ideal.ofBits, Ideal.ieee, -EReal.coe_mul]
  norm_num

/-- The noise is a real number, whatever the word. -/
theorem isReal_noise (w : BitVec 32) : IsReal (noise w) := by
  have hw := w.isLt
  unfold noise
  rw [Ideal.ofBits_one_f32, mul_one, unitOf_eq, least_eq]
  have hm : ((w.toNat / 512 : ℕ) : ℝ) ≤ 2 ^ 23 - 1 := by
    have : w.toNat / 512 ≤ 2 ^ 23 - 1 := by omega
    have := (Nat.cast_le (α := ℝ)).mpr this
    norm_num at this ⊢
    exact this
  have h0 : (0 : ℝ) ≤ ((w.toNat / 512 : ℕ) : ℝ) := Nat.cast_nonneg _
  generalize ((w.toNat / 512 : ℕ) : ℝ) = m at hm h0
  have ht : (0 : ℝ) < (2 : ℝ) ^ (-126 : ℤ) := by positivity
  have ht1 : (2 : ℝ) ^ (-126 : ℤ) < 1 / 2 ^ 23 := by norm_num
  generalize (2 : ℝ) ^ (-126 : ℤ) = t at ht ht1
  have hu : 0 ≤ m / 2 ^ 23 := by positivity
  have hu1 : m / 2 ^ 23 + t < 1 := by
    have : m / 2 ^ 23 ≤ 1 - 1 / 2 ^ 23 := by rw [div_le_iff₀ (by positivity)]; norm_num at hm ⊢; linarith
    linarith
  rw [← EReal.coe_add, max_eq_right (EReal.coe_le_coe_iff.mpr (by linarith)), Ideal.log_coe,
    if_neg (not_le.mpr (by linarith)), ← EReal.coe_neg, Ideal.log_coe,
    if_neg (not_le.mpr (by have := Real.log_neg (x := m / 2 ^ 23 + t) (by linarith) hu1; linarith)), ← EReal.coe_neg]
  exact ⟨_, rfl⟩

end Cert.Model

end
-- ==== Proof.Finite.lean ====
/- The precondition, read: the arguments of the network are real numbers. -/
module

public import proofs.«01_k».proof.Defs
public import proofs.«01_k».proof.Proof.KerArray
public import proofs.«01_k».proof.Proof.Real
public import Idealize.ShloMosaic.Lib.ReduceAll

@[expose] public section

set_option maxRecDepth 16384

noncomputable section

namespace Cert.Finite

open Cert.Model Idealize.ShloMosaic Idealize.ShloMosaic.TcCoe

/-- The word of the precondition's bound stands for infinity. -/
theorem infinity : Ideal.ofBits .f32 0x7F800000#32 = ⊤ := by simp [Ideal.ofBits, Ideal.ieee]

/-- An array all of whose magnitudes are below infinity is an array of real numbers. -/
theorem all_real {s : Shape} {axes : List (Fin s.rank)} {x b : FVec Ideal s .f32} {init : IVec Cert.Pre_finite.S_ 1}
    {h : s.ReducesTo axes Cert.Pre_finite.S_} {hu : 0 < Cert.Pre_finite.S_.numel} {j : Cert.Pre_finite.S_.Idx}
    (hb : ∀ i, b i = Ideal.ofBits .f32 0x7F800000#32)
    (e : Host.reduce IntOp.andi (cmpf .olt (Host.absf x) b) init h hu j = 1#1) (i : s.Idx) : IsReal (x i) := by
  haveI : Subsingleton Cert.Pre_finite.S_.Idx := ⟨fun a b => funext fun k => k.elim0⟩
  have h1 := Host.reduce_andi_all _ _ _ _ _ e i
  have h2 : BitVec.ofBool (decide (max (x i) (-(x i)) < b i)) = 1#1 := h1
  rw [hb i, infinity] at h2
  by_cases c : max (x i) (-(x i)) < ⊤
  · exact isReal_of_lt c
  · rw [decide_eq_false c] at h2
    exact absurd h2 (by decide)

variable {m : (ℓ : Loc Cert.KernelIdeal.nD Cert.KernelIdeal.τ Cert.KernelIdeal.sig) → Buf (Elt Ideal) ℓ}

/-- Under the precondition the network's arguments are real numbers. -/
theorem data_finite [Cert.Pre_finite.Facts] (hpre : Cert.Pre_KernelIdeal_finite m) (c : Dev Cert.KernelIdeal.nD) :
    (Cert.KernelIdeal.Value.data m c).Finite := by
  have h := congrFun (hpre c) (fun a => a.elim0)
  have split : ∀ {a b : BitVec 1}, IntOp.andi a b = 1#1 → a = 1#1 ∧ b = 1#1 := fun h => IntOp.andi_eq_one.1 h
  obtain ⟨h, h6⟩ := split h
  obtain ⟨h, h5⟩ := split h
  obtain ⟨h, h4⟩ := split h
  obtain ⟨h, h3⟩ := split h
  obtain ⟨h, h2⟩ := split h
  obtain ⟨h0, h1⟩ := split h
  exact ⟨fun a b => all_real (fun _ => rfl) h0 _, fun a b => all_real (fun _ => rfl) h1 _, fun a => all_real (fun _ => rfl) h2 _,
    fun a b => all_real (fun _ => rfl) h3 _, fun a => all_real (fun _ => rfl) h4 _, fun a b => all_real (fun _ => rfl) h5 _,
    fun a => all_real (fun _ => rfl) h6 _⟩

end Cert.Finite

end
-- ==== Proof.RefDraw.lean ====
/- The words the reference draws, one for each logit. -/
module

public import proofs.«01_k».proof.Proof.Bits
public import proofs.«01_k».proof.Proof.RefRun

@[expose] public section

set_option maxRecDepth 16384

noncomputable section

namespace Cert.ReferenceIdeal.Line

open Cert.ReferenceIdeal Cert.Draw Idealize.ShloMosaic Idealize.ShloMosaic.TcCoe Idealize.SL.Sem
open Idealize.ShloMosaic.StableHlo

variable {F : FTy → Type} [FloatOps F]

/-- What a buffer holds, at its value's type. -/
def read {T : BufTy} (V : Valuation τ sig (Elt F)) (t : TRef sig T) : T.Contents (Elt F) :=
  t.ofBuf (V (Proc.devRef .tc t.ref))

section Step

variable {T Ta Tb Ty : BufTy} (V : Valuation τ sig (Elt F))

theorem read_nullary (y : TRef sig Ty) (v : Ty.Contents (Elt F)) :
    read ((TRef.nullary (τ := τ) y v).result V) y = v := by
  unfold read; rw [nullary_result']; exact TRef.ofBuf_toBuf y _

theorem read_unary (x : TRef sig Ta) (y : TRef sig Ty) (f : Ta.Contents (Elt F) → Ty.Contents (Elt F)) :
    read ((TRef.unary (τ := τ) x y f).result V) y = f (read V x) := by
  unfold read; rw [unary_result']; exact TRef.ofBuf_toBuf y _

theorem read_binary (a : TRef sig Ta) (b : TRef sig Tb) (y : TRef sig Ty)
    (f : Ta.Contents (Elt F) → Tb.Contents (Elt F) → Ty.Contents (Elt F)) :
    read ((TRef.binary (τ := τ) a b y f).result V) y = f (read V a) (read V b) := by
  unfold read; rw [binary_result']; exact TRef.ofBuf_toBuf y _

/-- An operation that writes another buffer leaves this one. -/
theorem read_other {op : Op F} {y : TRef sig Ty} (t : TRef sig T) (hw : op.writes = {Proc.devRef (τ := τ) .tc y.ref})
    (h : t.ref ≠ y.ref) : read (op.result V) t = read V t := by
  unfold read
  have := after_unwritten (τ := τ) (ops := [op]) [y.ref] (r := t.ref) (by rw [List.map_singleton, List.map_singleton, hw])
    (fun hm => h (List.mem_singleton.mp hm)) V
  exact congrArg _ this

theorem read_nullary_ne (y : TRef sig Ty) (v : Ty.Contents (Elt F)) (t : TRef sig T) (h : t.ref ≠ y.ref) :
    read ((TRef.nullary (τ := τ) y v).result V) t = read V t := read_other V t rfl h

theorem read_unary_ne (x : TRef sig Ta) (y : TRef sig Ty) (f : Ta.Contents (Elt F) → Ty.Contents (Elt F)) (t : TRef sig T)
    (h : t.ref ≠ y.ref) : read ((TRef.unary (τ := τ) x y f).result V) t = read V t := read_other V t rfl h

theorem read_binary_ne (a : TRef sig Ta) (b : TRef sig Tb) (y : TRef sig Ty)
    (f : Ta.Contents (Elt F) → Tb.Contents (Elt F) → Ty.Contents (Elt F)) (t : TRef sig T) (h : t.ref ≠ y.ref) :
    read ((TRef.binary (τ := τ) a b y f).result V) t = read V t := read_other V t rfl h

end Step

theorem shl_eq (x l : BitVec 32) (h : l.toNat < 32) : IntOp.shli .host x l = x <<< l := if_pos h

theorem shr_eq (x r : BitVec 32) (h : r.toNat < 32) : IntOp.shrui .host x r = x >>> r := if_pos h

/-- One mixing round at an index. -/
theorem mixOps_at {V : Valuation τ sig (Elt F)} {x0 x1 : Words} {l r : BitVec 32} {s : Words} {cl : One} {bl hl : Words}
    {cr : One} {br hr o y : Words} {j : S16384x64.Idx} {p : Pair} (hl' : l.toNat < 32) (hr' : r.toNat < 32)
    (hn : [x1.ref, s.ref, cl.ref, bl.ref, hl.ref, cr.ref, br.ref, hr.ref, o.ref, y.ref].Nodup)
    (hp : ((read V x0 j, read V x1 j) : Pair) = p) :
    ((read (after (mixOps x0 x1 l r s cl bl hl cr br hr o y) V) s j,
      read (after (mixOps x0 x1 l r s cl bl hl cr br hr o y) V) y j) : Pair) = mix l r p := by
  subst hp
  simp only [List.nodup_cons, List.mem_cons, not_or, List.not_mem_nil, not_false_eq_true, and_true] at hn
  simp only [mixOps, after_cons, after_nil, read_binary, read_unary, read_nullary, read_binary_ne, read_unary_ne,
    read_nullary_ne, ne_eq, hn, not_false_eq_true]
  exact congrArg (Prod.mk _) ((BitVec.xor_comm _ _).trans
    (congrArg₂ (· ^^^ ·) (congrArg₂ (· ||| ·) (shl_eq _ _ hl') (shr_eq _ _ hr')) rfl))

/-- One key injection at an index. -/
theorem keyOps_at {V : Valuation τ sig (Elt F)} {x0 x1 : Words} {ka kb : One} {n : BitVec 32} {ba u bb w : Words} {c : One}
    {bc v : Words} {j : S16384x64.Idx} {p : Pair} {a b : BitVec 32}
    (hn : [x0.ref, x1.ref, kb.ref, ba.ref, u.ref, bb.ref, w.ref, c.ref, bc.ref, v.ref].Nodup)
    (ha : read V ka = fun _ => a) (hb : read V kb = fun _ => b)
    (hp : ((read V x0 j, read V x1 j) : Pair) = p) :
    ((read (after (keyOps x0 x1 ka kb n ba u bb w c bc v) V) u j,
      read (after (keyOps x0 x1 ka kb n ba u bb w c bc v) V) v j) : Pair) = inject a b n p := by
  subst hp
  simp only [List.nodup_cons, List.mem_cons, not_or, List.not_mem_nil, not_false_eq_true, and_true] at hn
  simp only [keyOps, after_cons, after_nil, read_binary, read_unary, read_nullary, read_binary_ne, read_unary_ne,
    read_nullary_ne, ne_eq, hn, not_false_eq_true, ha, hb]
  rfl

/-- The generator's key words, as the buffers hold them. -/
structure Keyed (V : Valuation τ sig (Elt F)) : Prop where
  k0 : read V main_call0.v5 = fun _ => (0 : BitVec 32)
  k1 : read V main_call0.v7 = fun _ => (42 : BitVec 32)
  k2 : read V main_call0.call0.v1 = fun _ => (466689008 : BitVec 32)

/-- The buffers of the key words. -/
abbrev keys : List (Ref sig .tc) := [main_call0.v5.ref, main_call0.v7.ref, main_call0.call0.v1.ref]

theorem Keyed.after {V : Valuation τ sig (Elt F)} (h : Keyed V) {ops : List (Op F)} (hk : Keeps ops keys) :
    Keyed (after ops V) where
  k0 := (congrArg _ (hk V _ (by simp))).trans h.k0
  k1 := (congrArg _ (hk V _ (by simp))).trans h.k1
  k2 := (congrArg _ (hk V _ (by simp))).trans h.k2

/-- The generator's state: the key words in their buffers, and the pair at an index in two others. -/
structure State (V : Valuation τ sig (Elt F)) (x0 x1 : Words) (j : S16384x64.Idx) (p : Pair) : Prop where
  keyed : Keyed V
  pair : ((read V x0 j, read V x1 j) : Pair) = p

theorem State.mix {V : Valuation τ sig (Elt F)} {x0 x1 : Words} {l r : BitVec 32} {s : Words} {cl : One} {bl hl : Words}
    {cr : One} {br hr o y : Words} {j : S16384x64.Idx} {p : Pair} (hl' : l.toNat < 32) (hr' : r.toNat < 32)
    (hn : [x1.ref, s.ref, cl.ref, bl.ref, hl.ref, cr.ref, br.ref, hr.ref, o.ref, y.ref].Nodup)
    (hk : ∀ w ∈ [s.ref, cl.ref, bl.ref, hl.ref, cr.ref, br.ref, hr.ref, o.ref, y.ref], w ∉ keys)
    (h : State V x0 x1 j p) :
    State (StableHlo.after (mixOps x0 x1 l r s cl bl hl cr br hr o y) V) s y j (Draw.mix l r p) where
  keyed := h.keyed.after (mixOps_keeps hk)
  pair := mixOps_at hl' hr' hn h.pair

theorem State.inject {V : Valuation τ sig (Elt F)} {x0 x1 : Words} {ka kb : One} {n : BitVec 32} {ba u bb w : Words}
    {c : One} {bc v : Words} {j : S16384x64.Idx} {p : Pair} {a b : BitVec 32}
    (hn : [x0.ref, x1.ref, kb.ref, ba.ref, u.ref, bb.ref, w.ref, c.ref, bc.ref, v.ref].Nodup)
    (hk : ∀ z ∈ [ba.ref, u.ref, bb.ref, w.ref, c.ref, bc.ref, v.ref], z ∉ keys)
    (ha : Keyed V → read V ka = fun _ => a) (hb : Keyed V → read V kb = fun _ => b)
    (h : State V x0 x1 j p) :
    State (StableHlo.after (keyOps x0 x1 ka kb n ba u bb w c bc v) V) u v j (Draw.inject a b n p) where
  keyed := h.keyed.after (keyOps_keeps hk)
  pair := keyOps_at hn (ha h.keyed) (hb h.keyed) h.pair

theorem State.inject01 {V : Valuation τ sig (Elt F)} {x0 x1 : Words} {n : BitVec 32} {ba u bb w : Words}
    {c : One} {bc v : Words} {j : S16384x64.Idx} {p : Pair}
    (hn : [x0.ref, x1.ref, TRef.ref main_call0.v7, ba.ref, u.ref, bb.ref, w.ref, c.ref, bc.ref, v.ref].Nodup)
    (hk : ∀ z ∈ [ba.ref, u.ref, bb.ref, w.ref, c.ref, bc.ref, v.ref], z ∉ keys) (h : State V x0 x1 j p) :
    State (StableHlo.after (keyOps x0 x1 main_call0.v5 main_call0.v7 n ba u bb w c bc v) V) u v j (Draw.inject 0 42 n p) :=
  State.inject hn hk Keyed.k0 Keyed.k1 h

theorem State.inject12 {V : Valuation τ sig (Elt F)} {x0 x1 : Words} {n : BitVec 32} {ba u bb w : Words}
    {c : One} {bc v : Words} {j : S16384x64.Idx} {p : Pair}
    (hn : [x0.ref, x1.ref, TRef.ref main_call0.call0.v1, ba.ref, u.ref, bb.ref, w.ref, c.ref, bc.ref, v.ref].Nodup)
    (hk : ∀ z ∈ [ba.ref, u.ref, bb.ref, w.ref, c.ref, bc.ref, v.ref], z ∉ keys) (h : State V x0 x1 j p) :
    State (StableHlo.after (keyOps x0 x1 main_call0.v7 main_call0.call0.v1 n ba u bb w c bc v) V) u v j (Draw.inject 42 466689008 n p) :=
  State.inject hn hk Keyed.k1 Keyed.k2 h

theorem State.inject20 {V : Valuation τ sig (Elt F)} {x0 x1 : Words} {n : BitVec 32} {ba u bb w : Words}
    {c : One} {bc v : Words} {j : S16384x64.Idx} {p : Pair}
    (hn : [x0.ref, x1.ref, TRef.ref main_call0.v5, ba.ref, u.ref, bb.ref, w.ref, c.ref, bc.ref, v.ref].Nodup)
    (hk : ∀ z ∈ [ba.ref, u.ref, bb.ref, w.ref, c.ref, bc.ref, v.ref], z ∉ keys) (h : State V x0 x1 j p) :
    State (StableHlo.after (keyOps x0 x1 main_call0.call0.v1 main_call0.v5 n ba u bb w c bc v) V) u v j (Draw.inject 466689008 0 n p) :=
  State.inject hn hk Keyed.k2 Keyed.k0 h

theorem State.split {V : Valuation τ sig (Elt F)} {a b : List (Op F)} {x0 x1 : Words} {j : S16384x64.Idx} {p : Pair}
    (h : State (StableHlo.after b (StableHlo.after a V)) x0 x1 j p) : State (StableHlo.after (a ++ b) V) x0 x1 j p := by
  rwa [after_append]

/-- The start at an index: the key words kept, the third one made, the pair of counter words under the key. -/
theorem startOps_at {V : Valuation τ sig (Elt F)} {a0 a1 : One} {a2 a3 : Words} {x c k2 : One} {b0 x0 b1 x1 : Words}
    {j : S16384x64.Idx} {n : BitVec 32}
    (hn : [a0.ref, a1.ref, a2.ref, a3.ref, x.ref, c.ref, k2.ref, b0.ref, x0.ref, b1.ref, x1.ref].Nodup)
    (h0 : read V a0 = fun _ => (0 : BitVec 32)) (h1 : read V a1 = fun _ => (42 : BitVec 32)) (hh : read V a2 j = 0#32) (hw : read V a3 j = n) :
    (read (after (startOps a0 a1 a2 a3 x c k2 b0 x0 b1 x1) V) a0 = fun _ => (0 : BitVec 32)) ∧
    (read (after (startOps a0 a1 a2 a3 x c k2 b0 x0 b1 x1) V) a1 = fun _ => (42 : BitVec 32)) ∧
    (read (after (startOps a0 a1 a2 a3 x c k2 b0 x0 b1 x1) V) k2 = fun _ => (466689008 : BitVec 32)) ∧
    ((read (after (startOps a0 a1 a2 a3 x c k2 b0 x0 b1 x1) V) x0 j,
      read (after (startOps a0 a1 a2 a3 x c k2 b0 x0 b1 x1) V) x1 j) : Pair) = (0, n + 42) := by
  subst hw
  simp only [List.nodup_cons, List.mem_cons, not_or, List.not_mem_nil, not_false_eq_true, and_true] at hn
  simp only [startOps, after_cons, after_nil, read_binary, read_unary, read_nullary, read_binary_ne, read_unary_ne,
    read_nullary_ne, ne_eq, hn, not_false_eq_true, h0, h1]
  refine ⟨trivial, trivial, funext fun _ => (by decide : ((0 : BitVec 32) ^^^ 42) ^^^ 466688986#32 = 466689008), Prod.ext ?_ rfl⟩
  exact (congrArg (· + (0#32)) hh).trans (by decide : (0#32 + 0#32) = 0#32)

/-- The start, from the key and the counter's two words. -/
theorem start_state {V : Valuation τ sig (Elt F)} {j : S16384x64.Idx} {n : BitVec 32}
    (h0 : read V main_call0.v5 = fun _ => (0 : BitVec 32)) (h1 : read V main_call0.v7 = fun _ => (42 : BitVec 32))
    (hh : read V main_call0.v18 j = 0#32) (hw : read V main_call0.v17 j = n) :
    State (after (startOps main_call0.v5 main_call0.v7 main_call0.v18 main_call0.v17 main_call0.call0.v0 main_call0.call0.c
      main_call0.call0.v1 main_call0.call0.v2 main_call0.call0.v3 main_call0.call0.v4 main_call0.call0.v5) V)
      main_call0.call0.v3 main_call0.call0.v5 j (0, n + 42) :=
  have h := startOps_at (by decide +kernel) h0 h1 hh hw
  ⟨⟨h.1, h.2.1, h.2.2.1⟩, h.2.2.2⟩

set_option maxHeartbeats 2000000 in
/-- What the generator leaves. -/
theorem draw_state {V : Valuation τ sig (Elt F)} {j : S16384x64.Idx} {n : BitVec 32}
    (h0 : read V main_call0.v5 = fun _ => (0 : BitVec 32)) (h1 : read V main_call0.v7 = fun _ => (42 : BitVec 32))
    (hh : read V main_call0.v18 j = 0#32) (hw : read V main_call0.v17 j = n) :
    State (after (threefryLine main_call0.v5 main_call0.v7 main_call0.v18 main_call0.v17 main_call0.call0) V)
      main_call0.call0.v171 main_call0.call0.v175 j (draw n) := by
  unfold threefryLine draw roundsA roundsB
  repeat first
    | with_reducible refine State.split ?_
    | with_reducible refine State.mix (by decide) (by decide) (by decide +kernel) (by decide +kernel) ?_
    | with_reducible refine State.inject01 (by decide +kernel) (by decide +kernel) ?_
    | with_reducible refine State.inject12 (by decide +kernel) (by decide +kernel) ?_
    | with_reducible refine State.inject20 (by decide +kernel) (by decide +kernel) ?_
  exact start_state h0 h1 hh hw

end Cert.ReferenceIdeal.Line
-- ==== Proof.RefScores.lean ====
/- The reference's logits and the scores it samples by. -/
module

public import proofs.«01_k».proof.Proof.RefDraw
public import proofs.«01_k».proof.Proof.Result
public import Idealize.ShloMosaic.Lib.StableHlo.ReadAt
public import Idealize.ShloMosaic.Lib.Pointwise

@[expose] public section

set_option maxRecDepth 16384

noncomputable section

namespace Cert.ReferenceIdeal.Line

open Cert.ReferenceIdeal Cert.Draw Cert.Model Idealize.ShloMosaic Idealize.ShloMosaic.TcCoe Idealize.SL.Sem
open Idealize.ShloMosaic.StableHlo

variable (V : Valuation τ sig (Elt Ideal))

/-- The arguments by their coordinates. -/
def data : Data where
  z a b := V (Proc.devRef .tc main_arg0) (ix2 a b)
  w1 a b := V (Proc.devRef .tc main_arg1) (ix2 a b)
  b1 a := V (Proc.devRef .tc main_arg2) (ix1 a)
  w2 a b := V (Proc.devRef .tc main_arg3) (ix2 a b)
  b2 a := V (Proc.devRef .tc main_arg4) (ix1 a)
  w3 a b := V (Proc.devRef .tc main_arg5) (ix2 a b)
  b3 a := V (Proc.devRef .tc main_arg6) (ix1 a)
  codebook a b := V (Proc.devRef .tc main_arg7) (ix2 a b)

theorem network_logits (R : Fin 16384) (j : Fin 64) :
    after pieces.network V (Proc.devRef .tc main_v15) (ix2 R j) = (data V).logits R j := by
  unfold pieces; dsimp only
  after_reads_at
  rfl

theorem network_key0 : after pieces.network V (Proc.devRef .tc main_v22) (ix1 (0 : Fin 2)) = (0 : BitVec 32) := by
  unfold pieces; dsimp only
  after_reads_at
  rfl

theorem network_key1 : after pieces.network V (Proc.devRef .tc main_v22) (ix1 (1 : Fin 2)) = (42 : BitVec 32) := by
  unfold pieces; dsimp only
  after_reads_at
  rfl

theorem network_low (i : S_.Idx) : after pieces.network V (Proc.devRef .tc main_cst_3) i = (0 : EReal) := by
  unfold pieces; dsimp only
  after_reads_at

theorem network_high (i : S_.Idx) : after pieces.network V (Proc.devRef .tc main_cst_4) i = (1 : EReal) := by
  unfold pieces; dsimp only
  after_reads_at

theorem counter_key0 (h : V (Proc.devRef .tc main_v22) (ix1 (0 : Fin 2)) = (0 : BitVec 32)) :
    read (after uniform.counter V) main_call0.v5 = fun _ => (0 : BitVec 32) := by
  funext i
  unfold uniform read; dsimp only
  after_reads_at
  exact h

theorem counter_key1 (h : V (Proc.devRef .tc main_v22) (ix1 (1 : Fin 2)) = (42 : BitVec 32)) :
    read (after uniform.counter V) main_call0.v7 = fun _ => (42 : BitVec 32) := by
  funext i
  unfold uniform read; dsimp only
  after_reads_at
  exact h

/-- The counter of a row and a code, in 64 bits, and its two halves. -/
theorem counter_word (r : Fin 16384) (c : Fin 64) :
    (64#64 * BitVec.ofNat 64 r.val + 1#64 * BitVec.ofNat 64 c.val : BitVec 64) = BitVec.ofNat 64 (r.val * 64 + c.val) := by
  have := r.isLt; have := c.isLt
  apply BitVec.eq_of_toNat_eq
  simp only [BitVec.toNat_add, BitVec.toNat_mul, BitVec.toNat_ofNat]
  omega

theorem counter_high (n : Nat) (h : n < 4294967296) :
    BitVec.setWidth 32 (IntOp.shrui .host (BitVec.ofNat 64 n) 32#64) = 0#32 := by
  have e : IntOp.shrui .host (BitVec.ofNat 64 n) 32#64 = BitVec.ofNat 64 n >>> (32#64) := if_pos (by decide)
  rw [e]
  apply BitVec.eq_of_toNat_eq
  simp only [BitVec.toNat_setWidth, BitVec.ushiftRight_eq', BitVec.toNat_ushiftRight, BitVec.toNat_ofNat, Nat.shiftRight_eq_div_pow,
    Nat.reducePow, Nat.reduceMod]
  omega

theorem counter_hi (R : Fin 16384) (j : Fin 64) :
    read (after uniform.counter V) main_call0.v18 (ix2 R j) = (0#32 : BitVec 32) := by
  unfold uniform read; dsimp only
  after_reads_at
  exact (congrArg (fun w => BitVec.setWidth 32 (IntOp.shrui .host w 32#64)) (counter_word R j)).trans
    (counter_high _ (by have := R.isLt; have := j.isLt; omega))

theorem counter_lo (R : Fin 16384) (j : Fin 64) :
    read (after uniform.counter V) main_call0.v17 (ix2 R j) = Data.place R j := by
  unfold uniform read; dsimp only
  after_reads_at
  refine (congrArg (BitVec.setWidth 32) (counter_word R j)).trans ?_
  have := R.isLt; have := j.isLt
  apply BitVec.eq_of_toNat_eq
  simp only [BitVec.toNat_setWidth, BitVec.toNat_ofNat, Data.place]
  omega

theorem counter_low (h : ∀ i : S_.Idx, V (Proc.devRef .tc main_cst_3) i = (0 : EReal)) (i : S1x1.Idx) :
    after uniform.counter V (Proc.devRef .tc main_call0_v2) i = (0 : EReal) := by
  unfold uniform; dsimp only
  after_reads_at
  exact h _

theorem counter_high' (h : ∀ i : S_.Idx, V (Proc.devRef .tc main_cst_4) i = (1 : EReal)) (i : S1x1.Idx) :
    after uniform.counter V (Proc.devRef .tc main_call0_v3) i = (1 : EReal) := by
  unfold uniform; dsimp only
  after_reads_at
  exact h _

/-- The draw made of a word. -/
theorem scale_draw (h0 : ∀ i : S1x1.Idx, V (Proc.devRef .tc main_call0_v2) i = (0 : EReal))
    (h1 : ∀ i : S1x1.Idx, V (Proc.devRef .tc main_call0_v3) i = (1 : EReal)) (i : S16384x64.Idx) (p : Pair)
    (ha : ((read V main_call0.call0.v171 i, read V main_call0.call0.v175 i) : Pair) = p) :
    after uniform.scale V (Proc.devRef .tc main_v23) i = max 0 (unitOf (p.1 ^^^ p.2)) := by
  subst ha
  unfold uniform; dsimp only
  after_reads_at
  simp only [h0, h1, sub_zero, mul_one, add_zero]
  refine congrArg (max 0) (congrArg₂ (· - ·) (congrArg (fun w : BitVec 32 => Ideal.ofBits .f32 (w ||| 1065353216#32)) (shr_eq _ 9#32 (by decide))) ?_)
  exact Ideal.ofBits_one_f32.symm

theorem gumbel_scores (u l : EReal) (i : S16384x64.Idx) (hu : V (Proc.devRef .tc main_v23) i = u)
    (hl : V (Proc.devRef .tc main_v15) i = l) :
    after pieces.gumbel V (Proc.devRef .tc main_v34) i = l + -Ideal.log (-Ideal.log (max least (u + least))) := by
  subst hu hl
  unfold pieces; dsimp only
  after_reads_at
  exact add_comm _ _

end Cert.ReferenceIdeal.Line
-- ==== Proof.RefArgmax.lean ====
/- The reference's argmax: the code a row of scores picks. -/
module

public import proofs.«01_k».proof.Proof.RefScores

@[expose] public section

set_option maxRecDepth 16384

noncomputable section

namespace Cert.ReferenceIdeal.Line

open Cert.ReferenceIdeal Cert.Draw Cert.Model Idealize.ShloMosaic Idealize.ShloMosaic.TcCoe Idealize.SL.Sem
open Idealize.ShloMosaic.StableHlo

/-- A value with its index. -/
abbrev Scored : Type := EReal × BitVec 32

/-- One scored index is at least as good as another: a larger value, or the same value and no later an index. -/
def Beats (p q : Scored) : Prop := q.1 < p.1 ∨ (q.1 = p.1 ∧ p.2.toInt ≤ q.2.toInt)

theorem Beats.refl (p : Scored) : Beats p p := .inr ⟨rfl, le_rfl⟩

theorem Beats.trans {p q r : Scored} (h : Beats p q) (h' : Beats q r) : Beats p r := by
  rcases h with h | ⟨h, l⟩ <;> rcases h' with h' | ⟨h', l'⟩
  · exact .inl (h'.trans h)
  · exact .inl (h' ▸ h)
  · exact .inl (h ▸ h')
  · exact .inr ⟨h'.trans h, l.trans l'⟩

/-- The reducer keeps its first argument when that is strictly the better one. -/
theorem reducer_eq (a b : Scored) : reducer_argmax_f32_i32 (F := Ideal) a b
    = if b.1 < a.1 ∨ (a.1 = b.1 ∧ a.2.toInt < b.2.toInt) then a else b := by
  show (Scalar.select (IntOp.ori (BitVec.ofBool (decide (b.1 < a.1))) (BitVec.ofBool (decide (a.1 ≠ a.1)))) a.1 b.1,
    Scalar.select (IntOp.ori (IntOp.ori (BitVec.ofBool (decide (b.1 < a.1))) (BitVec.ofBool (decide (a.1 ≠ a.1))))
      (IntOp.andi (BitVec.ofBool (decide (a.1 = b.1))) (IntOp.cmpi .slt a.2 b.2))) a.2 b.2) = _
  rw [show IntOp.cmpi .slt a.2 b.2 = BitVec.ofBool (decide (a.2.toInt < b.2.toInt)) from rfl]
  by_cases h1 : b.1 < a.1
  · rw [if_pos (.inl h1)]
    simp [h1, IntOp.ori, IntOp.andi, Scalar.select, ne_of_gt h1]
  · by_cases h2 : a.1 = b.1
    · by_cases h3 : a.2.toInt < b.2.toInt
      · rw [if_pos (.inr ⟨h2, h3⟩)]
        refine Prod.ext ?_ ?_
        · simp [h2, IntOp.ori, Scalar.select]
        · simp [h2, h3, IntOp.ori, IntOp.andi, Scalar.select]
      · rw [if_neg (by tauto)]
        simp [h2, h3, IntOp.ori, IntOp.andi, Scalar.select]
    · rw [if_neg (by tauto)]
      simp [h1, h2, IntOp.ori, IntOp.andi, Scalar.select]

theorem reducer_mem (a b : Scored) : reducer_argmax_f32_i32 (F := Ideal) a b = a ∨ reducer_argmax_f32_i32 (F := Ideal) a b = b := by
  rw [reducer_eq]; split_ifs
  · exact .inl rfl
  · exact .inr rfl

theorem reducer_beats (a b : Scored) :
    Beats (reducer_argmax_f32_i32 (F := Ideal) a b) a ∧ Beats (reducer_argmax_f32_i32 (F := Ideal) a b) b := by
  rw [reducer_eq]; split_ifs with h
  · exact ⟨.refl a, h.imp id fun h => ⟨h.1.symm, h.2.le⟩⟩
  · refine ⟨?_, .refl b⟩
    rcases not_or.mp h with ⟨h1, h2⟩
    rcases lt_or_eq_of_le (not_lt.mp h1) with l | e
    · exact .inl l
    · exact .inr ⟨e, not_lt.mp fun l => h2 ⟨e, l⟩⟩

/-- A fold of the reducer ends at one of what it meets, which beats all of them. -/
theorem fold_best (l : List Scored) (a : Scored) :
    l.foldl (reducer_argmax_f32_i32 (F := Ideal)) a ∈ a :: l
      ∧ ∀ q ∈ a :: l, Beats (l.foldl (reducer_argmax_f32_i32 (F := Ideal)) a) q := by
  induction l generalizing a with
  | nil => exact ⟨List.mem_cons_self .., fun q hq => List.mem_singleton.mp hq ▸ .refl _⟩
  | cons b l ih =>
    obtain ⟨hm, hb⟩ := ih (reducer_argmax_f32_i32 (F := Ideal) a b)
    have h0 := hb _ (List.mem_cons_self ..)
    rw [List.foldl_cons]
    refine ⟨?_, fun q hq => ?_⟩
    · rcases List.mem_cons.mp hm with h | h
      · rw [h]
        rcases reducer_mem a b with e | e <;> rw [e] <;> simp
      · simp [h]
    · rcases List.mem_cons.mp hq with rfl | hq
      · exact h0.trans (reducer_beats _ _).1
      rcases List.mem_cons.mp hq with rfl | hq
      · exact h0.trans (reducer_beats _ _).2
      · exact hb q (List.mem_cons_of_mem _ hq)

/-- Over the scored codes of a row, from the lowest value at index 0, it ends at the code the row picks. -/
theorem fold_picks (y : Row) (k : Fin 64) (hk : Picks y k) (l : List Scored) (b : EReal) (hbot : b = ⊥)
    (hl : ∀ q, q ∈ l ↔ ∃ i : Fin 64, q = (y i, BitVec.ofNat 32 i.val)) :
    (l.foldl (reducer_argmax_f32_i32 (F := Ideal)) (b, 0#32)).2 = BitVec.ofNat 32 k.val := by
  subst hbot
  obtain ⟨hm, hb⟩ := fold_best l (⊥, 0#32)
  generalize l.foldl (reducer_argmax_f32_i32 (F := Ideal)) (⊥, 0#32) = r at hm hb
  have hbk := hb (y k, BitVec.ofNat 32 k.val) (List.mem_cons_of_mem _ ((hl _).mpr ⟨k, rfl⟩))
  -- the winner is the scored index of some code `i`, or the start
  have key : ∀ i : Fin 64, r.1 = y i → r.2 = BitVec.ofNat 32 i.val → r.2 = BitVec.ofNat 32 k.val := by
    intro i h1 h2
    rcases hbk with h | ⟨h, h'⟩
    · exact absurd (h1 ▸ h) (not_lt.mpr (hk.largest ▸ le_top y i))
    · rw [h2, toInt_code _ i.isLt.le, toInt_code _ k.isLt.le] at h'
      have hle : i ≤ k := by exact_mod_cast h'
      rcases lt_or_eq_of_le hle with hlt | heq
      · exact absurd (h1.symm.trans (h.symm.trans hk.largest)) (hk.first i hlt)
      · rw [h2, heq]
  rcases List.mem_cons.mp hm with h | h
  · have hall : ∀ i, y i = ⊥ := fun i => by
      rcases hb (y i, BitVec.ofNat 32 i.val) (List.mem_cons_of_mem _ ((hl _).mpr ⟨i, rfl⟩)) with h' | ⟨h', -⟩
      · rw [h] at h'; exact absurd h' not_lt_bot
      · rw [h] at h'; exact h'
    exact key 0 (by rw [h, hall 0]) (by rw [h]; rfl)
  · obtain ⟨i, hi⟩ := (hl r).mp h
    exact key i (by rw [hi]) (by rw [hi])

variable (V : Valuation τ sig (Elt Ideal))

/-- The argmax's buffer holds the code each row of scores picks. -/
theorem argmax_code (R : Fin 16384) (y : Row) (k : Fin 64) (hk : Picks y k)
    (hy : ∀ j : Fin 64, V (Proc.devRef .tc main_v34) (ix2 R j) = y j) :
    after pieces.argmax V (Proc.devRef .tc main_v35) (ix1 R) = BitVec.ofNat 32 k.val := by
  unfold pieces; dsimp only
  after_reads_at
  rw [Ideal.argReduce_eq_reduce2, Host.reduce2_eq_foldl_fiber]
  refine fold_picks y k hk _ _ lowest fun q => ?_
  unfold Host.argReduceFiber
  rw [List.mem_map]
  constructor
  · rintro ⟨n, hn, rfl⟩
    have hd := of_decide_eq_true (List.mem_filter.mp hn).2
    generalize S16384x64.rowMajor.symm n = i at hd ⊢
    have h0 : i 0 = R := Fin.ext ((Shape.ReducesTo.drop_apply_val_of_eq _ i 0 0).symm.trans (congrArg (fun t : S16384.Idx => (t 0).val) hd))
    refine ⟨i 1, Prod.ext ?_ rfl⟩
    have hi : i = ix2 R (i 1) := h0 ▸ eq_ix2 i
    exact (congrArg _ hi).trans (hy (i 1))
  · rintro ⟨j, rfl⟩
    refine ⟨S16384x64.rowMajor (ix2 R j), List.mem_filter.mpr ⟨List.mem_finRange _, decide_eq_true ?_⟩, ?_⟩
    · rw [Equiv.symm_apply_apply]
      funext a
      match a with
      | ⟨0, _⟩ => exact Fin.ext (Shape.ReducesTo.drop_apply_val_of_eq _ (ix2 R j) 0 0)
    · rw [Equiv.symm_apply_apply]
      exact Prod.ext (hy j) rfl

end Cert.ReferenceIdeal.Line
-- ==== Proof.RefTake.lean ====
/- What the reference reads at the picked code: its log-probability, and its row of the table. -/
module

public import proofs.«01_k».proof.Proof.RefScores
public import Idealize.ShloMosaic.Lib.Routing.Ops

@[expose] public section

set_option maxRecDepth 16384

noncomputable section

namespace Cert.ReferenceIdeal.Line

open Cert.ReferenceIdeal Cert.Draw Cert.Model Idealize.ShloMosaic Idealize.ShloMosaic.TcCoe Idealize.SL.Sem
open Idealize.ShloMosaic.StableHlo

/-- A code is not negative, so it is not counted from the end. -/
theorem wrap_code : ∀ k : Fin 64, Scalar.select (IntOp.cmpi .slt (BitVec.ofNat 32 k.val) 0#32)
    (IntOp.addi (BitVec.ofNat 32 k.val) 64#32) (BitVec.ofNat 32 k.val) = BitVec.ofNat 32 k.val := by decide +kernel

/-- A code is within the table. -/
theorem range_code : ∀ k : Fin 64, IntOp.andi (IntOp.cmpi .sge (BitVec.ofNat 32 k.val) 0#32)
    (IntOp.cmpi .sle (BitVec.ofNat 32 k.val) 63#32) = 1#1 := by decide +kernel

theorem all_one : Finset.fold IntOp.andi (1#1) (fun _ : Fin 1 => 1#1) Finset.univ = 1#1 := by
  rw [Finset.univ_unique, Finset.fold_singleton]; rfl

/-- One element of each row, by a column of indices. -/
theorem gather_column (x : S16384x64.Idx → EReal) (idx : IVec S16384x1x1 32) (R : Fin 16384) (k : Fin 64)
    (h : ∀ i : S16384x1x1.Idx, i 0 = R → idx i = BitVec.ofNat 32 k.val) :
    Host.gather gather_S16384x64_S16384x1x1_S16384x1_n_1_0_0_1_2_11 x idx (ix2 R (0 : Fin 1)) = x (ix2 R k) := by
  unfold Host.gather
  refine congrArg x (funext fun a => Fin.ext ?_)
  match a with
  | ⟨0, _⟩ =>
    show GatherDims.start _ _ idx 0 + GatherDims.batchCoord _ _ 0 + GatherDims.offCoord _ _ 0 = R.val
    rw [GatherDims.start_batching _ _ _ _ (List.mem_singleton.mpr rfl), GatherDims.offCoord_eq_zero _ _ _ (by decide +kernel)]
    exact (Nat.zero_add _).trans rfl
  | ⟨1, _⟩ =>
    show GatherDims.start _ _ idx 1 + GatherDims.batchCoord _ _ 1 + GatherDims.offCoord _ _ 1 = k.val
    rw [GatherDims.batchCoord_eq_zero _ _ _ (by decide +kernel), GatherDims.offCoord_eq_zero _ _ _ (by decide +kernel)]
    unfold GatherDims.start
    rw [dif_pos (show (1 : Fin S16384x64.rank) ∈ gather_S16384x64_S16384x1x1_S16384x1_n_1_0_0_1_2_11.startIndexMap from
      List.mem_singleton.mpr rfl), h _ rfl, toInt_code _ k.isLt.le]
    show min k.val 63 = k.val
    have := k.isLt
    omega

variable (V : Valuation τ sig (Elt Ideal))

theorem column_code (R : Fin 16384) :
    after pieces.column V (Proc.devRef .tc main_v37) (ix2 R (0 : Fin 1)) = V (Proc.devRef .tc main_v35) (ix1 R) := by
  unfold pieces; dsimp only
  after_reads_at

theorem flat_value (R : Fin 16384) :
    after pieces.flat V (Proc.devRef .tc main_v39) (ix1 R) = V (Proc.devRef .tc main_v38) (ix2 R (0 : Fin 1)) := by
  unfold pieces; dsimp only
  after_reads_at

theorem pick_value (R : Fin 16384) (k : Fin 64)
    (h : V (Proc.devRef .tc main_v37) (ix2 R (0 : Fin 1)) = BitVec.ofNat 32 k.val) :
    after pieces.pick V (Proc.devRef .tc main_v38) (ix2 R (0 : Fin 1)) = V (Proc.devRef .tc main_v36) (ix2 R k) := by
  unfold pieces; dsimp only
  after_reads_at
  rw [gather_column _ _ R k]
  · simp only [h, wrap_code, range_code, all_one]
    rfl
  · intro i hi
    subst hi
    exact (congrArg (fun w => Scalar.select (IntOp.cmpi .slt w 0#32) (IntOp.addi w 64#32) w) h).trans (wrap_code k)

theorem take_value (R : Fin 16384) (k : Fin 64) (c : Fin 256)
    (h : V (Proc.devRef .tc main_v35) (ix1 R) = BitVec.ofNat 32 k.val) :
    after pieces.take V (Proc.devRef .tc main_v40) (ix2 R c) = V (Proc.devRef .tc main_arg7) (ix2 k c) := by
  unfold pieces; dsimp only
  after_reads_at
  simp only [h, wrap_code, range_code, all_one]
  refine (if_pos rfl).trans (Routing.gather_row gather_S64x256_S16384x1_S16384x256_1_0_n_n_0_1_1256 rfl rfl rfl rfl rfl
    _ _ R c k ?_ (by decide))
  pointwise
  exact (congrArg (fun w => Scalar.select (IntOp.cmpi .slt w 0#32) (IntOp.addi w 64#32) w) h).trans (wrap_code k)

/-- The log-probabilities from the logits. -/
theorem logSoftmax_value (R : Fin 16384) (j : Fin 64) (l : Row) (h : ∀ j, V (Proc.devRef .tc main_v15) (ix2 R j) = l j) :
    after pieces.logSoftmax V (Proc.devRef .tc main_v36) (ix2 R j) = l j - top l - spread l (top l) := by
  obtain rfl : (fun j => V (Proc.devRef .tc main_v15) (ix2 R j)) = l := funext h
  unfold pieces; dsimp only
  after_reads_at
  simp only [lowest, max_eq_right bot_le]
  rfl

end Cert.ReferenceIdeal.Line
-- ==== Proof.RefValue.lean ====
/- What the reference leaves in its three results. -/
module

public import proofs.«01_k».proof.Proof.RefArgmax
public import proofs.«01_k».proof.Proof.RefTake
public import proofs.«01_k».proof.Proof.Real

@[expose] public section

set_option maxRecDepth 16384

noncomputable section

namespace Cert.ReferenceIdeal.Line

open Cert.ReferenceIdeal Cert.Draw Cert.Model Idealize.ShloMosaic Idealize.ShloMosaic.TcCoe Idealize.SL.Sem
open Idealize.ShloMosaic.StableHlo

variable (V : Valuation τ sig (Elt Ideal))

theorem unitOf_nonneg (w : BitVec 32) : 0 ≤ unitOf w := by
  rw [unitOf_eq]
  exact_mod_cast (by positivity : (0 : ℝ) ≤ ((w.toNat / 512 : ℕ) : ℝ) / 2 ^ 23)

/-- The noise by the reference's steps. -/
theorem noise_eq (w : BitVec 32) : -Ideal.log (-Ideal.log (max least (max 0 (unitOf w) + least))) = noise w := by
  rw [max_eq_right (unitOf_nonneg w)]
  unfold noise
  rw [Ideal.ofBits_one_f32, mul_one]

/-- The contents after the uniform draw. -/
def drawn : Valuation τ sig (Elt Ideal) :=
  after uniform.scale (after (threefryLine main_call0.v5 main_call0.v7 main_call0.v18 main_call0.v17 main_call0.call0)
    (after uniform.counter (after pieces.network V)))

/-- The contents after the argmax. -/
def chosen : Valuation τ sig (Elt Ideal) := after pieces.argmax (after pieces.gumbel (drawn V))

theorem drawn_known (r : Ref sig .tc) (hr : r ∈ known) :
    drawn V (Proc.devRef .tc r) = after pieces.network V (Proc.devRef .tc r) := by
  unfold drawn
  rw [scale_keeps _ r hr, threefry_keeps _ r (List.mem_cons_of_mem _ (List.mem_cons_of_mem _ hr)), counter_keeps _ r hr]

theorem drawn_unit (R : Fin 16384) (j : Fin 64) :
    drawn V (Proc.devRef .tc main_v23) (ix2 R j) = max 0 (unitOf (word (Data.place R j))) := by
  unfold drawn
  refine scale_draw _ ?_ ?_ (ix2 R j) (draw (Data.place R j)) ?_
  · intro i
    rw [threefry_keeps _ main_call0_v2 (List.mem_cons_self ..)]
    exact counter_low _ (network_low V) i
  · intro i
    rw [threefry_keeps _ main_call0_v3 (List.mem_cons_of_mem _ (List.mem_cons_self ..))]
    exact counter_high' _ (network_high V) i
  · exact (draw_state (counter_key0 _ (network_key0 V)) (counter_key1 _ (network_key1 V)) (counter_hi _ R j)
      (counter_lo _ R j)).pair

theorem scores_eq (R : Fin 16384) (j : Fin 64) :
    after pieces.gumbel (drawn V) (Proc.devRef .tc main_v34) (ix2 R j) = (data V).scores R j := by
  rw [gumbel_scores _ _ _ _ (drawn_unit V R j)
    ((congrFun (drawn_known V main_v15 (by simp [known])) (ix2 R j)).trans (network_logits V R j)), noise_eq]
  rfl

theorem chosen_code (R : Fin 16384) :
    chosen V (Proc.devRef .tc main_v35) (ix1 R) = BitVec.ofNat 32 ((data V).code R).val :=
  argmax_code _ R _ _ ((data V).code_picks R) (scores_eq V R)

theorem chosen_known (r : Ref sig .tc) (hr : r ∈ known) :
    chosen V (Proc.devRef .tc r) = after pieces.network V (Proc.devRef .tc r) := by
  unfold chosen
  rw [argmax_keeps _ r hr, gumbel_keeps _ r hr, drawn_known V r hr]

theorem chosen_logits (R : Fin 16384) (j : Fin 64) :
    chosen V (Proc.devRef .tc main_v15) (ix2 R j) = (data V).logits R j :=
  (congrFun (chosen_known V main_v15 (by simp [known])) (ix2 R j)).trans (network_logits V R j)

theorem line_eq : after line V = after pieces.take (after pieces.flat (after pieces.pick (after pieces.column
    (after pieces.logSoftmax (chosen V))))) := by
  unfold line chosen drawn
  simp only [after_append, List.append_nil]

/-- The second result: the codes. -/
theorem value_code (R : Fin 16384) :
    after line V (Proc.devRef .tc main_v35) (ix1 R) = BitVec.ofNat 32 ((data V).code R).val := by
  rw [line_eq, take_keeps _ main_v35 (by simp), flat_keeps _ main_v35 (by simp), pick_keeps _ main_v35 (by simp),
    column_keeps _ main_v35 (by simp), logSoftmax_keeps _ main_v35 (by simp)]
  exact chosen_code V R

/-- The third result: the logarithm of the code's probability. -/
theorem value_logProb (hf : (data V).Finite) (R : Fin 16384) :
    after line V (Proc.devRef .tc main_v39) (ix1 R) = (data V).logProb R := by
  rw [line_eq, take_keeps _ main_v39 (by simp), flat_value, pick_value _ R ((data V).code R), column_keeps _ main_v36 (by simp),
    logSoftmax_value _ R _ _ (chosen_logits V R)]
  · exact logProb_eq (hf.logits R) (isReal_top fun j => (hf.logits R j).add (isReal_noise _)) _
  · rw [column_code, logSoftmax_keeps _ main_v35 (by simp)]
    exact chosen_code V R

/-- The first result: the code's row of the table. -/
theorem value_row (R : Fin 16384) (c : Fin 256) :
    after line V (Proc.devRef .tc main_v40) (ix2 R c) = (data V).codebook ((data V).code R) c := by
  rw [line_eq, take_value _ R ((data V).code R) c]
  · rw [flat_keeps _ main_arg7 (by simp [args]), pick_keeps _ main_arg7 (by simp [args]), column_keeps _ main_arg7 (by simp [args]),
      logSoftmax_keeps _ main_arg7 (by simp [args]), chosen_known V main_arg7 (by simp [known, args]),
      network_keeps _ main_arg7 (by simp [args])]
    rfl
  · rw [flat_keeps _ main_v35 (by simp), pick_keeps _ main_v35 (by simp), column_keeps _ main_v35 (by simp),
      logSoftmax_keeps _ main_v35 (by simp)]
    exact chosen_code V R

end Cert.ReferenceIdeal.Line
-- ==== Proof.Equal.lean ====
/- The kernel and the reference end with the same three results. -/
module

public import proofs.«01_k».proof.Proof.Finite
public import proofs.«01_k».proof.Proof.RefValue

@[expose] public section

set_option maxRecDepth 16384

noncomputable section

namespace Cert.Equal

open Cert.Model Idealize.ShloMosaic Idealize.ShloMosaic.TcCoe Idealize.SL.Sem
open Idealize.ShloMosaic.StableHlo (launchContents after)

/-- Memories that agree on the arguments hold the same data. -/
theorem data_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Line.data (launchContents m' c) = Cert.KernelIdeal.Value.data m c := by
  obtain ⟨h0, h1, h2, h3, h4, h5, h6, h7⟩ := h
  unfold Cert.ReferenceIdeal.Line.data Cert.KernelIdeal.Value.data
  congr 1
  · funext a b; exact congrFun h0 (ix2 a b)
  · funext a b; exact congrFun h1 (ix2 a b)
  · funext a; exact congrFun h2 (ix1 a)
  · funext a b; exact congrFun h3 (ix2 a b)
  · funext a; exact congrFun h4 (ix1 a)
  · funext a b; exact congrFun h5 (ix2 a b)
  · funext a; exact congrFun h6 (ix1 a)
  · funext a b; exact congrFun h7 (ix2 a b)

/-- The value claim. -/
theorem algebraic [Cert.Pre_finite.Facts] : Cert.algebraic_KernelIdeal_ReferenceIdeal_pre_finite := by
  intro m g m' g' hpre hagree
  refine ⟨fun c i => (Cert.KernelIdeal.Value.data m c).codebook ((Cert.KernelIdeal.Value.data m c).code (i 0)) (i 1),
    fun c i => BitVec.ofNat 32 ((Cert.KernelIdeal.Value.data m c).code (i 0)).val,
    fun c i => (Cert.KernelIdeal.Value.data m c).logProb (i 0), ?_, ?_⟩
  · refine θ_run_mono (Cert.KernelIdeal.Value.run_blocks m g) fun r h c => ?_
    obtain ⟨h0, h1, h2, h⟩ := h c
    exact ⟨h0.trans (Cert.KernelIdeal.Value.goal_array m c), h1.trans (Cert.KernelIdeal.Value.idx_array m c),
      h2.trans (Cert.KernelIdeal.Value.logp_array m c), h⟩
  · refine θ_run_mono (Cert.ReferenceIdeal.Line.run m' g') fun r h c => ?_
    have hd := data_eq (hagree c)
    have hf := hd.symm ▸ Cert.Finite.data_finite hpre c
    refine ⟨(h c _).trans (funext fun i : Cert.KernelIdeal.S16384x256.Idx => ?_),
      (h c _).trans (funext fun i : Cert.KernelIdeal.S16384.Idx => ?_),
      (h c _).trans (funext fun i : Cert.KernelIdeal.S16384.Idx => ?_), ?_⟩
    · refine (congrArg _ (eq_ix2 i)).trans ((Cert.ReferenceIdeal.Line.value_row _ (i 0) (i 1)).trans ?_)
      rw [hd]
    · refine (congrArg _ (eq_ix1 i)).trans ((Cert.ReferenceIdeal.Line.value_code _ (i 0)).trans ?_)
      rw [hd]
    · refine (congrArg _ (eq_ix1 i)).trans ((Cert.ReferenceIdeal.Line.value_logProb _ hf (i 0)).trans ?_)
      rw [hd]
    · and_intros <;> exact (h c _).trans (Cert.ReferenceIdeal.Line.line_keeps _ _ (by decide))

end Cert.Equal

end
-- ==== Proof.lean ====
/- The five claims together. The kernel and its ideal form end with every semaphore at zero and their arguments as they were;
   so does the reference's ideal form; no operation was replaced; and from the same finite arguments the kernel and the
   reference end with the same codes, the same log-probabilities and the same rows of the codebook. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite
public import proofs.«01_k».proof.Proof.RefRun
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference ends, leaves its arguments as they were and every semaphore at zero. -/
theorem reference_frame : Cert.quiescent_ReferenceIdeal := fun m g _ =>
  θ_run_mono (Cert.ReferenceIdeal.Line.run m g) fun r h =>
    ⟨fun c => by
      and_intros <;> exact (h c _).trans (Cert.ReferenceIdeal.Line.line_keeps _ _ (by decide)),
      sem_eq_zero_of_no_sems (by decide) r.2⟩

/-- Every claim of the certificate, with the side facts of the four programs. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, reference_frame, fun m g _ => reference_frame m g trivial, trivial,
    Cert.Equal.algebraic⟩

end Cert.Proof

end
